-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x96x512x512 : Shape := ⟨4, ![2, 96, 512, 512]⟩
abbrev S2x1x512x512 : Shape := ⟨4, ![2, 1, 512, 512]⟩
abbrev S2048x2048 : Shape := ⟨2, ![2048, 2048]⟩
abbrev S2048 : Shape := ⟨1, ![2048]⟩
abbrev S96x96 : Shape := ⟨2, ![96, 96]⟩
abbrev S96 : Shape := ⟨1, ![96]⟩
abbrev S_ : Shape := ⟨0, ![]⟩

class Facts : Prop where
  bcast_S_S2x96x512x512 : S_.BroadcastsInDim S2x96x512x512 (![] : Fin 0 → Fin S2x96x512x512.rank)
  reducesTo_S2x96x512x512_S_d0_1_2_3 : S2x96x512x512.ReducesTo [0, 1, 2, 3] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg5 : FVec F S96x96 .f32) (main_arg6 : FVec F S96 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  main_v28

def fn {F : FTy → Type} [FloatOps F] (main_arg0 : FVec F S2x96x512x512 .f32) (main_arg1 : FVec F S2x1x512x512 .f32) (main_arg2 : FVec F S2048x2048 .f32) (main_arg3 : FVec F S2048 .f32) (main_arg4 : FVec F S2048 .f32) (main_arg5 : FVec F S96x96 .f32) (main_arg6 : FVec F S96 .f32) (main_arg7 : FVec F S96 .f32) : IVec S_ 1 :=
  let main_v0 : FVec F S2x96x512x512 .f32 := Host.absf main_arg0
  let main_cst : FVec F S_ .f32 := constant S_ .f32 0x7F800000#32
  let main_v1 : FVec F S2x96x512x512 .f32 := broadcastInDim S2x96x512x512 ![] bcast_S_S2x96x512x512 main_cst
  let main_v2 : IVec S2x96x512x512 1 := cmpf .olt main_v0 main_v1
  let main_c : IVec S_ 1 := constantI S_ 1 1#1
  let main_v3 : IVec S_ 1 := (fun x v => Host.reduce IntOp.andi x v reducesTo_S2x96x512x512_S_d0_1_2_3 h_S_) main_v2 main_c
  let main_v4 : FVec F S2048x2048 .f32 := Host.absf main_arg2
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg4
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg5 main_arg6 main_v13 main_v16
-- ==== Kernel.lean ====
abbrev S2x96x512x512 : Shape := ⟨4, ![2, 96, 512, 512]⟩
abbrev S2x1x512x512 : Shape := ⟨4, ![2, 1, 512, 512]⟩
abbrev S2048x2048 : Shape := ⟨2, ![2048, 2048]⟩
abbrev S2048 : Shape := ⟨1, ![2048]⟩
abbrev S96x96 : Shape := ⟨2, ![96, 96]⟩
abbrev S96 : Shape := ⟨1, ![96]⟩
abbrev S_ : Shape := ⟨0, ![]⟩
abbrev S2x262144 : Shape := ⟨2, ![2, 262144]⟩
abbrev S2x2048 : Shape := ⟨2, ![2, 2048]⟩
abbrev S2x96x262144 : Shape := ⟨3, ![2, 96, 262144]⟩
abbrev S2x1x2048 : Shape := ⟨3, ![2, 1, 2048]⟩
abbrev S2x96x2048 : Shape := ⟨3, ![2, 96, 2048]⟩
abbrev S2x96x2048x1 : Shape := ⟨4, ![2, 96, 2048, 1]⟩
abbrev S1 : Shape := ⟨1, ![1]⟩
abbrev S1x1x1x1 : Shape := ⟨4, ![1, 1, 1, 1]⟩
abbrev S2x2048x96 : Shape := ⟨3, ![2, 2048, 96]⟩
abbrev S1x2048x96 : Shape := ⟨3, ![1, 2048, 96]⟩
abbrev S2048x96 : Shape := ⟨2, ![2048, 96]⟩
abbrev S2048x1 : Shape := ⟨2, ![2048, 1]⟩
abbrev S1x96 : Shape := ⟨2, ![1, 96]⟩
abbrev S2 : Shape := ⟨1, ![2]⟩
abbrev S2x1x1 : Shape := ⟨3, ![2, 1, 1]⟩
abbrev S1x96x1 : Shape := ⟨3, ![1, 96, 1]⟩
abbrev S2x96x2048x3 : Shape := ⟨4, ![2, 96, 2048, 3]⟩

abbrev nBuf : Space → Nat
  | .hbm => 79
  | .vmem => 8
  | .smem => 0
  | _ => 0

abbrev bufTy : (tb : Table) → Fin (tcTables nBuf tb) → BufTy
  | .hbm, ⟨0, _⟩ => ⟨S2x96x512x512, .f32⟩
  | .hbm, ⟨1, _⟩ => ⟨S2x1x512x512, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S96x96, .f32⟩
  | .hbm, ⟨6, _⟩ => ⟨S96, .f32⟩
  | .hbm, ⟨7, _⟩ => ⟨S96, .f32⟩
  | .hbm, ⟨8, _⟩ => ⟨S_, .f32⟩
  | .hbm, ⟨9, _⟩ => ⟨S2x1x512x512, .f32⟩
  | .hbm, ⟨10, _⟩ => ⟨S2x1x512x512, .i1⟩
  | .hbm, ⟨11, _⟩ => ⟨S_, .f32⟩
  | .hbm, ⟨12, _⟩ => ⟨S_, .f32⟩
  | .hbm, ⟨13, _⟩ => ⟨S2x1x512x512, .f32⟩
  | .hbm, ⟨14, _⟩ => ⟨S2x1x512x512, .f32⟩
  | .hbm, ⟨15, _⟩ => ⟨S2x262144, .f32⟩
  | .hbm, ⟨16, _⟩ => ⟨S2x2048, .f32⟩
  | .hbm, ⟨17, _⟩ => ⟨S2x2048, .i32⟩
  | .hbm, ⟨18, _⟩ => ⟨S2x96x262144, .f32⟩
  | .hbm, ⟨19, _⟩ => ⟨S2x1x2048, .i32⟩
  | .hbm, ⟨20, _⟩ => ⟨S2x96x2048, .i32⟩
  | .hbm, ⟨21, _⟩ => ⟨S_, .i32⟩
  | .hbm, ⟨22, _⟩ => ⟨S2x96x2048, .i32⟩
  | .hbm, ⟨23, _⟩ => ⟨S2x96x2048, .i1⟩
  | .hbm, ⟨24, _⟩ => ⟨S_, .i32⟩
  | .hbm, ⟨25, _⟩ => ⟨S2x96x2048, .i32⟩
  | .hbm, ⟨26, _⟩ => ⟨S2x96x2048, .i32⟩
  | .hbm, ⟨27, _⟩ => ⟨S2x96x2048, .i32⟩
  | .hbm, ⟨28, _⟩ => ⟨S2x96x2048x1, .i32⟩
  | .hbm, ⟨29, _⟩ => ⟨S1, .i32⟩
  | .hbm, ⟨30, _⟩ => ⟨S_, .i32⟩
  | .hbm, ⟨31, _⟩ => ⟨S2x96x2048x1, .i32⟩
  | .hbm, ⟨32, _⟩ => ⟨S2x96x2048x1, .i1⟩
  | .hbm, ⟨33, _⟩ => ⟨S1x1x1x1, .i32⟩
  | .hbm, ⟨34, _⟩ => ⟨S2x96x2048x1, .i32⟩
  | .hbm, ⟨35, _⟩ => ⟨S2x96x2048x1, .i1⟩
  | .hbm, ⟨36, _⟩ => ⟨S2x96x2048x1, .i1⟩
  | .hbm, ⟨37, _⟩ => ⟨S_, .i1⟩
  | .hbm, ⟨38, _⟩ => ⟨S2x96x2048, .i1⟩
  | .hbm, ⟨39, _⟩ => ⟨S2x96x2048, .f32⟩
  | .hbm, ⟨40, _⟩ => ⟨S_, .f32⟩
  | .hbm, ⟨41, _⟩ => ⟨S2x96x2048, .f32⟩
  | .hbm, ⟨42, _⟩ => ⟨S2x96x2048, .f32⟩
  | .hbm, ⟨43, _⟩ => ⟨S2x2048x96, .f32⟩
  | .hbm, ⟨44, _⟩ => ⟨S2x2048x96, .f32⟩
  | .hbm, ⟨45, _⟩ => ⟨S2x96x2048, .f32⟩
  | .hbm, ⟨46, _⟩ => ⟨S2, .i32⟩
  | .hbm, ⟨47, _⟩ => ⟨S2x1x1, .i32⟩
  | .hbm, ⟨48, _⟩ => ⟨S96, .i32⟩
  | .hbm, ⟨49, _⟩ => ⟨S1x96x1, .i32⟩
  | .hbm, ⟨50, _⟩ => ⟨S_, .i32⟩
  | .hbm, ⟨51, _⟩ => ⟨S2x1x1, .i32⟩
  | .hbm, ⟨52, _⟩ => ⟨S2x1x1, .i1⟩
  | .hbm, ⟨53, _⟩ => ⟨S_, .i32⟩
  | .hbm, ⟨54, _⟩ => ⟨S2x1x1, .i32⟩
  | .hbm, ⟨55, _⟩ => ⟨S2x1x1, .i32⟩
  | .hbm, ⟨56, _⟩ => ⟨S2x1x1, .i32⟩
  | .hbm, ⟨57, _⟩ => ⟨S_, .i32⟩
  | .hbm, ⟨58, _⟩ => ⟨S1x96x1, .i32⟩
  | .hbm, ⟨59, _⟩ => ⟨S1x96x1, .i1⟩
  | .hbm, ⟨60, _⟩ => ⟨S_, .i32⟩
  | .hbm, ⟨61, _⟩ => ⟨S1x96x1, .i32⟩
  | .hbm, ⟨62, _⟩ => ⟨S1x96x1, .i32⟩
  | .hbm, ⟨63, _⟩ => ⟨S1x96x1, .i32⟩
  | .hbm, ⟨64, _⟩ => ⟨S_, .i32⟩
  | .hbm, ⟨65, _⟩ => ⟨S2x96x2048, .i32⟩
  | .hbm, ⟨66, _⟩ => ⟨S2x96x2048, .i1⟩
  | .hbm, ⟨67, _⟩ => ⟨S_, .i32⟩
  | .hbm, ⟨68, _⟩ => ⟨S2x96x2048, .i32⟩
  | .hbm, ⟨69, _⟩ => ⟨S2x96x2048, .i32⟩
  | .hbm, ⟨70, _⟩ => ⟨S2x96x2048, .i32⟩
  | .hbm, ⟨71, _⟩ => ⟨S2x96x2048, .i32⟩
  | .hbm, ⟨72, _⟩ => ⟨S2x96x2048, .i32⟩
  | .hbm, ⟨73, _⟩ => ⟨S2x96x2048x1, .i32⟩
  | .hbm, ⟨74, _⟩ => ⟨S2x96x2048x1, .i32⟩
  | .hbm, ⟨75, _⟩ => ⟨S2x96x2048x1, .i32⟩
  | .hbm, ⟨76, _⟩ => ⟨S2x96x2048x3, .i32⟩
  | .hbm, ⟨77, _⟩ => ⟨S2x96x262144, .f32⟩
  | .hbm, ⟨78, _⟩ => ⟨S2x96x512x512, .f32⟩
  | .local _ .vmem, ⟨0, _⟩ => ⟨S2x2048x96, .f32⟩
  | .local _ .vmem, ⟨1, _⟩ => ⟨S2048x2048, .f32⟩
  | .local _ .vmem, ⟨2, _⟩ => ⟨S2048, .f32⟩
  | .local _ .vmem, ⟨3, _⟩ => ⟨S2048, .f32⟩
  | .local _ .vmem, ⟨4, _⟩ => ⟨S96x96, .f32⟩
  | .local _ .vmem, ⟨5, _⟩ => ⟨S96, .f32⟩
  | .local _ .vmem, ⟨6, _⟩ => ⟨S96, .f32⟩
  | .local _ .vmem, ⟨7, _⟩ => ⟨S2x2048x96, .f32⟩
  | _, _ => ⟨S2x96x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v2 : Ref sig .tc := ⟨.hbm, 14, rfl⟩
abbrev main_v3 : Ref sig .tc := ⟨.hbm, 15, rfl⟩
abbrev main_values : Ref sig .tc := ⟨.hbm, 16, rfl⟩
abbrev main_indices : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_c : Ref sig .tc := ⟨.hbm, 50, rfl⟩
abbrev main_v15 : Ref sig .tc := ⟨.hbm, 51, rfl⟩
abbrev main_v16 : Ref sig .tc := ⟨.hbm, 52, rfl⟩
abbrev main_c_1 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_c_2 : Ref sig .tc := ⟨.hbm, 57, rfl⟩
abbrev main_v20 : Ref sig .tc := ⟨.hbm, 58, rfl⟩
abbrev main_v21 : Ref sig .tc := ⟨.hbm, 59, rfl⟩
abbrev main_c_3 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_c_4 : Ref sig .tc := ⟨.hbm, 64, rfl⟩
abbrev main_v25 : Ref sig .tc := ⟨.hbm, 65, rfl⟩
abbrev main_v26 : Ref sig .tc := ⟨.hbm, 66, rfl⟩
abbrev main_c_5 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x2048x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x2048x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2x96x512x512 : Shape := ⟨4, ![2, 96, 512, 512]⟩
abbrev S2x1x512x512 : Shape := ⟨4, ![2, 1, 512, 512]⟩
abbrev S2048x2048 : Shape := ⟨2, ![2048, 2048]⟩
abbrev S2048 : Shape := ⟨1, ![2048]⟩
abbrev S96x96 : Shape := ⟨2, ![96, 96]⟩
abbrev S96 : Shape := ⟨1, ![96]⟩
abbrev S_ : Shape := ⟨0, ![]⟩
abbrev S2x262144 : Shape := ⟨2, ![2, 262144]⟩
abbrev S2x2048 : Shape := ⟨2, ![2, 2048]⟩
abbrev S2x96x262144 : Shape := ⟨3, ![2, 96, 262144]⟩
abbrev S2x1x2048 : Shape := ⟨3, ![2, 1, 2048]⟩
abbrev S2x96x2048 : Shape := ⟨3, ![2, 96, 2048]⟩
abbrev S2x96x2048x1 : Shape := ⟨4, ![2, 96, 2048, 1]⟩
abbrev S1 : Shape := ⟨1, ![1]⟩
abbrev S1x1x1x1 : Shape := ⟨4, ![1, 1, 1, 1]⟩
abbrev S2x2048x96 : Shape := ⟨3, ![2, 2048, 96]⟩
abbrev S1x2048x1 : Shape := ⟨3, ![1, 2048, 1]⟩
abbrev S1x96x1 : Shape := ⟨3, ![1, 96, 1]⟩
abbrev S2 : Shape := ⟨1, ![2]⟩
abbrev S2x1x1 : Shape := ⟨3, ![2, 1, 1]⟩
abbrev S2x96x2048x3 : Shape := ⟨4, ![2, 96, 2048, 3]⟩

abbrev nBuf : Space → Nat
  | .hbm => 177
  | .vmem => 0
  | .smem => 0
  | _ => 0

abbrev hbmTy0_0 (i : Nat) : BufTy := match i % 128 with
  | 0 => ⟨S2x96x512x512, .f32⟩
  | 1 => ⟨S2x1x512x512, .f32⟩
  | 2 => ⟨S2048x2048, .f32⟩
  | 3 => ⟨S2048, .f32⟩
  | 4 => ⟨S2048, .f32⟩
  | 5 => ⟨S96x96, .f32⟩
  | 6 => ⟨S96, .f32⟩
  | 7 => ⟨S96, .f32⟩
  | 8 => ⟨S_, .f32⟩
  | 9 => ⟨S2x1x512x512, .f32⟩
  | 10 => ⟨S2x1x512x512, .i1⟩
  | 11 => ⟨S_, .f32⟩
  | 12 => ⟨S_, .f32⟩
  | 13 => ⟨S2x1x512x512, .f32⟩
  | 14 => ⟨S2x1x512x512, .f32⟩
  | 15 => ⟨S2x262144, .f32⟩
  | 16 => ⟨S2x2048, .f32⟩
  | 17 => ⟨S2x2048, .i32⟩
  | 18 => ⟨S2x96x262144, .f32⟩
  | 19 => ⟨S2x1x2048, .i32⟩
  | 20 => ⟨S2x96x2048, .i32⟩
  | 21 => ⟨S_, .i32⟩
  | 22 => ⟨S2x96x2048, .i32⟩
  | 23 => ⟨S2x96x2048, .i1⟩
  | 24 => ⟨S_, .i32⟩
  | 25 => ⟨S2x96x2048, .i32⟩
  | 26 => ⟨S2x96x2048, .i32⟩
  | 27 => ⟨S2x96x2048, .i32⟩
  | 28 => ⟨S2x96x2048x1, .i32⟩
  | 29 => ⟨S1, .i32⟩
  | 30 => ⟨S_, .i32⟩
  | 31 => ⟨S2x96x2048x1, .i32⟩
  | 32 => ⟨S2x96x2048x1, .i1⟩
  | 33 => ⟨S1x1x1x1, .i32⟩
  | 34 => ⟨S2x96x2048x1, .i32⟩
  | 35 => ⟨S2x96x2048x1, .i1⟩
  | 36 => ⟨S2x96x2048x1, .i1⟩
  | 37 => ⟨S_, .i1⟩
  | 38 => ⟨S2x96x2048, .i1⟩
  | 39 => ⟨S2x96x2048, .f32⟩
  | 40 => ⟨S_, .f32⟩
  | 41 => ⟨S2x96x2048, .f32⟩
  | 42 => ⟨S2x96x2048, .f32⟩
  | 43 => ⟨S2x2048x96, .f32⟩
  | 44 => ⟨S2x96x2048, .f32⟩
  | 45 => ⟨S2x2048x96, .f32⟩
  | 46 => ⟨S_, .f32⟩
  | 47 => ⟨S2048, .f32⟩
  | 48 => ⟨S1x2048x1, .f32⟩
  | 49 => ⟨S_, .f32⟩
  | 50 => ⟨S1x2048x1, .f32⟩
  | 51 => ⟨S1x2048x1, .f32⟩
  | 52 => ⟨S_, .i32⟩
  | 53 => ⟨S_, .f32⟩
  | 54 => ⟨S2048, .f32⟩
  | 55 => ⟨S1x2048x1, .f32⟩
  | 56 => ⟨S_, .f32⟩
  | 57 => ⟨S1x2048x1, .f32⟩
  | 58 => ⟨S1x2048x1, .f32⟩
  | 59 => ⟨S2x2048x96, .f32⟩
  | 60 => ⟨S2x2048x96, .f32⟩
  | 61 => ⟨S2x2048x96, .f32⟩
  | 62 => ⟨S_, .f32⟩
  | 63 => ⟨S_, .f32⟩
  | 64 => ⟨S_, .f32⟩
  | 65 => ⟨S_, .f32⟩
  | 66 => ⟨S2048, .f32⟩
  | 67 => ⟨S1x2048x1, .f32⟩
  | 68 => ⟨S1x2048x1, .f32⟩
  | 69 => ⟨S1x2048x1, .f32⟩
  | 70 => ⟨S_, .f32⟩
  | 71 => ⟨S_, .i1⟩
  | 72 => ⟨S_, .f32⟩
  | 73 => ⟨S_, .f32⟩
  | 74 => ⟨S1x2048x1, .f32⟩
  | 75 => ⟨S1x2048x1, .f32⟩
  | 76 => ⟨S2x2048x96, .f32⟩
  | 77 => ⟨S2x2048x96, .f32⟩
  | 78 => ⟨S_, .f32⟩
  | 79 => ⟨S1x2048x1, .f32⟩
  | 80 => ⟨S1x2048x1, .f32⟩
  | 81 => ⟨S1x2048x1, .f32⟩
  | 82 => ⟨S2x2048x96, .f32⟩
  | 83 => ⟨S2x2048x96, .f32⟩
  | 84 => ⟨S1x2048x1, .f32⟩
  | 85 => ⟨S2x2048x96, .f32⟩
  | 86 => ⟨S2x2048x96, .f32⟩
  | 87 => ⟨S1x2048x1, .f32⟩
  | 88 => ⟨S2x2048x96, .f32⟩
  | 89 => ⟨S2x2048x96, .f32⟩
  | 90 => ⟨S_, .f32⟩
  | 91 => ⟨S2x2048x96, .f32⟩
  | 92 => ⟨S2x2048x96, .f32⟩
  | 93 => ⟨S2x2048x96, .f32⟩
  | 94 => ⟨S2x96x2048, .f32⟩
  | 95 => ⟨S2x2048x96, .f32⟩
  | 96 => ⟨S2x96x2048, .f32⟩
  | 97 => ⟨S_, .f32⟩
  | 98 => ⟨S96, .f32⟩
  | 99 => ⟨S1x96x1, .f32⟩
  | 100 => ⟨S_, .f32⟩
  | 101 => ⟨S1x96x1, .f32⟩
  | 102 => ⟨S1x96x1, .f32⟩
  | 103 => ⟨S_, .i32⟩
  | 104 => ⟨S_, .f32⟩
  | 105 => ⟨S96, .f32⟩
  | 106 => ⟨S1x96x1, .f32⟩
  | 107 => ⟨S_, .f32⟩
  | 108 => ⟨S1x96x1, .f32⟩
  | 109 => ⟨S1x96x1, .f32⟩
  | 110 => ⟨S2x96x2048, .f32⟩
  | 111 => ⟨S2x96x2048, .f32⟩
  | 112 => ⟨S2x96x2048, .f32⟩
  | 113 => ⟨S_, .f32⟩
  | 114 => ⟨S_, .f32⟩
  | 115 => ⟨S_, .f32⟩
  | 116 => ⟨S_, .f32⟩
  | 117 => ⟨S96, .f32⟩
  | 118 => ⟨S1x96x1, .f32⟩
  | 119 => ⟨S1x96x1, .f32⟩
  | 120 => ⟨S1x96x1, .f32⟩
  | 121 => ⟨S_, .f32⟩
  | 122 => ⟨S_, .i1⟩
  | 123 => ⟨S_, .f32⟩
  | 124 => ⟨S_, .f32⟩
  | 125 => ⟨S1x96x1, .f32⟩
  | 126 => ⟨S1x96x1, .f32⟩
  | 127 => ⟨S2x96x2048, .f32⟩
  | _ => ⟨S2x96x512x512, .f32⟩

abbrev hbmTy0_1 (i : Nat) : BufTy := match i % 128 with
  | 0 => ⟨S2x96x2048, .f32⟩
  | 1 => ⟨S_, .f32⟩
  | 2 => ⟨S1x96x1, .f32⟩
  | 3 => ⟨S1x96x1, .f32⟩
  | 4 => ⟨S1x96x1, .f32⟩
  | 5 => ⟨S2x96x2048, .f32⟩
  | 6 => ⟨S2x96x2048, .f32⟩
  | 7 => ⟨S1x96x1, .f32⟩
  | 8 => ⟨S2x96x2048, .f32⟩
  | 9 => ⟨S2x96x2048, .f32⟩
  | 10 => ⟨S1x96x1, .f32⟩
  | 11 => ⟨S2x96x2048, .f32⟩
  | 12 => ⟨S2x96x2048, .f32⟩
  | 13 => ⟨S_, .f32⟩
  | 14 => ⟨S2x96x2048, .f32⟩
  | 15 => ⟨S2x96x2048, .f32⟩
  | 16 => ⟨S2, .i32⟩
  | 17 => ⟨S2x1x1, .i32⟩
  | 18 => ⟨S96, .i32⟩
  | 19 => ⟨S1x96x1, .i32⟩
  | 20 => ⟨S_, .i32⟩
  | 21 => ⟨S2x1x1, .i32⟩
  | 22 => ⟨S2x1x1, .i1⟩
  | 23 => ⟨S_, .i32⟩
  | 24 => ⟨S2x1x1, .i32⟩
  | 25 => ⟨S2x1x1, .i32⟩
  | 26 => ⟨S2x1x1, .i32⟩
  | 27 => ⟨S_, .i32⟩
  | 28 => ⟨S1x96x1, .i32⟩
  | 29 => ⟨S1x96x1, .i1⟩
  | 30 => ⟨S_, .i32⟩
  | 31 => ⟨S1x96x1, .i32⟩
  | 32 => ⟨S1x96x1, .i32⟩
  | 33 => ⟨S1x96x1, .i32⟩
  | 34 => ⟨S_, .i32⟩
  | 35 => ⟨S2x96x2048, .i32⟩
  | 36 => ⟨S2x96x2048, .i1⟩
  | 37 => ⟨S_, .i32⟩
  | 38 => ⟨S2x96x2048, .i32⟩
  | 39 => ⟨S2x96x2048, .i32⟩
  | 40 => ⟨S2x96x2048, .i32⟩
  | 41 => ⟨S2x96x2048, .i32⟩
  | 42 => ⟨S2x96x2048, .i32⟩
  | 43 => ⟨S2x96x2048x1, .i32⟩
  | 44 => ⟨S2x96x2048x1, .i32⟩
  | 45 => ⟨S2x96x2048x1, .i32⟩
  | 46 => ⟨S2x96x2048x3, .i32⟩
  | 47 => ⟨S2x96x262144, .f32⟩
  | 48 => ⟨S2x96x512x512, .f32⟩
  | _ => ⟨S2x96x512x512, .f32⟩

abbrev hbmTy (i : Nat) : BufTy := match i / 128 with
  | 0 => hbmTy0_0 i
  | 1 => hbmTy0_1 i
  | _ => ⟨S2x96x512x512, .f32⟩

abbrev bufTy : (tb : Table) → Fin (tcTables nBuf tb) → BufTy
  | .hbm, ⟨i, _⟩ => hbmTy i
  | _, _ => ⟨S2x96x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v2 : Ref sig .tc := ⟨.hbm, 14, rfl⟩
abbrev main_v3 : Ref sig .tc := ⟨.hbm, 15, rfl⟩
abbrev main_values : Ref sig .tc := ⟨.hbm, 16, rfl⟩
abbrev main_indices : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call1_c : Ref sig .tc := ⟨.hbm, 21, rfl⟩
abbrev main_call1_v0 : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_c_1 : Ref sig .tc := ⟨.hbm, 29, rfl⟩
abbrev main_call1_c_2 : Ref sig .tc := ⟨.hbm, 30, rfl⟩
abbrev main_call1_v6 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_3 : Ref sig .tc := ⟨.hbm, 37, rfl⟩
abbrev main_call1_v12 : Ref sig .tc := ⟨.hbm, 38, rfl⟩
abbrev main_call1_v13 : Ref sig .tc := ⟨.hbm, 39, rfl⟩
abbrev main_call1_cst : Ref sig .tc := ⟨.hbm, 40, rfl⟩
abbrev main_call1_v14 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_cst_1 : Ref sig .tc := ⟨.hbm, 46, rfl⟩
abbrev main_v11 : Ref sig .tc := ⟨.hbm, 47, rfl⟩
abbrev main_v12 : Ref sig .tc := ⟨.hbm, 48, rfl⟩
abbrev main_cst_2 : Ref sig .tc := ⟨.hbm, 49, rfl⟩
abbrev main_v13 : Ref sig .tc := ⟨.hbm, 50, rfl⟩
abbrev main_v14 : Ref sig .tc := ⟨.hbm, 51, rfl⟩
abbrev main_c : Ref sig .tc := ⟨.hbm, 52, rfl⟩
abbrev main_call2_cst : Ref sig .tc := ⟨.hbm, 53, rfl⟩
abbrev main_call2_v0 : Ref sig .tc := ⟨.hbm, 54, rfl⟩
abbrev main_call2_v1 : Ref sig .tc := ⟨.hbm, 55, rfl⟩
abbrev main_call2_cst_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_cst_1 : Ref sig .tc := ⟨.hbm, 63, rfl⟩
abbrev main_call2_v8 : Ref sig .tc := ⟨.hbm, 64, rfl⟩
abbrev main_call2_cst_2 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_cst_3 : Ref sig .tc := ⟨.hbm, 70, rfl⟩
abbrev main_call2_v13 : Ref sig .tc := ⟨.hbm, 71, rfl⟩
abbrev main_call2_cst_4 : Ref sig .tc := ⟨.hbm, 72, rfl⟩
abbrev main_call2_call0_v0 : Ref sig .tc := ⟨.hbm, 73, rfl⟩
abbrev main_call2_call0_v1 : Ref sig .tc := ⟨.hbm, 74, rfl⟩
abbrev main_v15 : Ref sig .tc := ⟨.hbm, 75, rfl⟩
abbrev main_v16 : Ref sig .tc := ⟨.hbm, 76, rfl⟩
abbrev main_v17 : Ref sig .tc := ⟨.hbm, 77, rfl⟩
abbrev main_cst_3 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_call3_cst : Ref sig .tc := ⟨.hbm, 90, rfl⟩
abbrev main_call3_v0 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_cst_4 : Ref sig .tc := ⟨.hbm, 97, rfl⟩
abbrev main_v34 : Ref sig .tc := ⟨.hbm, 98, rfl⟩
abbrev main_v35 : Ref sig .tc := ⟨.hbm, 99, rfl⟩
abbrev main_cst_5 : Ref sig .tc := ⟨.hbm, 100, rfl⟩
abbrev main_v36 : Ref sig .tc := ⟨.hbm, 101, rfl⟩
abbrev main_v37 : Ref sig .tc := ⟨.hbm, 102, rfl⟩
abbrev main_c_6 : Ref sig .tc := ⟨.hbm, 103, rfl⟩
abbrev main_call4_cst : Ref sig .tc := ⟨.hbm, 104, rfl⟩
abbrev main_call4_v0 : Ref sig .tc := ⟨.hbm, 105, rfl⟩
abbrev main_call4_v1 : Ref sig .tc := ⟨.hbm, 106, rfl⟩
abbrev main_call4_cst_0 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_v6 : Ref sig .tc := ⟨.hbm, 112, rfl⟩
abbrev main_call4_v7 : Ref sig .tc := ⟨.hbm, 113, rfl⟩
abbrev main_call4_cst_1 : Ref sig .tc := ⟨.hbm, 114, rfl⟩
abbrev main_call4_v8 : Ref sig .tc := ⟨.hbm, 115, rfl⟩
abbrev main_call4_cst_2 : Ref sig .tc := ⟨.hbm, 116, rfl⟩
abbrev main_call4_v9 : Ref sig .tc := ⟨.hbm, 117, rfl⟩
abbrev main_call4_v10 : Ref sig .tc := ⟨.hbm, 118, rfl⟩
abbrev main_call4_v11 : Ref sig .tc := ⟨.hbm, 119, rfl⟩
abbrev main_call4_v12 : Ref sig .tc := ⟨.hbm, 120, rfl⟩
abbrev main_call4_cst_3 : Ref sig .tc := ⟨.hbm, 121, rfl⟩
abbrev main_call4_v13 : Ref sig .tc := ⟨.hbm, 122, rfl⟩
abbrev main_call4_cst_4 : Ref sig .tc := ⟨.hbm, 123, rfl⟩
abbrev main_call4_call0_v0 : Ref sig .tc := ⟨.hbm, 124, rfl⟩
abbrev main_call4_call0_v1 : Ref sig .tc := ⟨.hbm, 125, rfl⟩
abbrev main_v38 : Ref sig .tc := ⟨.hbm, 126, rfl⟩
abbrev main_v39 : Ref sig .tc := ⟨.hbm, 127, rfl⟩
abbrev main_v40 : Ref sig .tc := ⟨.hbm, 128, rfl⟩
abbrev main_cst_7 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_call5_cst : Ref sig .tc := ⟨.hbm, 141, rfl⟩
abbrev main_call5_v0 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_c_8 : Ref sig .tc := ⟨.hbm, 148, rfl⟩
abbrev main_v57 : Ref sig .tc := ⟨.hbm, 149, rfl⟩
abbrev main_v58 : Ref sig .tc := ⟨.hbm, 150, rfl⟩
abbrev main_c_9 : Ref sig .tc := ⟨.hbm, 151, rfl⟩
abbrev main_v59 : Ref sig .tc := ⟨.hbm, 152, rfl⟩
abbrev main_v60 : Ref sig .tc := ⟨.hbm, 153, rfl⟩
abbrev main_v61 : Ref sig .tc := ⟨.hbm, 154, rfl⟩
abbrev main_c_10 : Ref sig .tc := ⟨.hbm, 155, rfl⟩
abbrev main_v62 : Ref sig .tc := ⟨.hbm, 156, rfl⟩
abbrev main_v63 : Ref sig .tc := ⟨.hbm, 157, rfl⟩
abbrev main_c_11 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_c_12 : Ref sig .tc := ⟨.hbm, 162, rfl⟩
abbrev main_v67 : Ref sig .tc := ⟨.hbm, 163, rfl⟩
abbrev main_v68 : Ref sig .tc := ⟨.hbm, 164, rfl⟩
abbrev main_c_13 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_v73 : Ref sig .tc := ⟨.hbm, 170, rfl⟩
abbrev main_v74 : Ref sig .tc := ⟨.hbm, 171, rfl⟩
abbrev main_v75 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩

abbrev nD : Nat := 1
abbrev τ : Topo := Topo.v7x

variable {F : FTy → Type} [FloatOps F]
-- ==== Proof.BatchNorm.lean ====
/-
  Batch normalization followed by relu, over one group of `2 * n` numbers that lie in two rows of `n`, as extended reals:
  in the kernel's form (`kbn`: variance as mean of squares less squared mean, one multiplier `scale`, one addend `shift`)
  and in the reference's (`rbn`: variance as mean of squared deviations, a division by the root). `kbn_eq_rbn`: on finite
  data the two agree, whatever the last addend `β`; `rbn_real`: with `β` finite too the value is finite.
-/
module

public import Idealize.ShloMosaic.PureOps.Ideal
public import Idealize.ShloMosaic.Lib.Pointwise

@[expose] public section

noncomputable section

namespace Cert.Proof

open Idealize.ShloMosaic

variable {n : ℕ}

/-- The kernel's form: `x` of the group `Z` normalized, scaled by `γ`, moved by `β`, cut at zero. -/
def kbn (Z : Fin 2 → Fin n → EReal) (N ε γ β x : EReal) : EReal :=
  max (x * (γ * Ideal.rsqrt (Ideal.div (∑ k, Z 0 k * Z 0 k + ∑ k, Z 1 k * Z 1 k) N
      - Ideal.div (∑ k, Z 0 k + ∑ k, Z 1 k) N * Ideal.div (∑ k, Z 0 k + ∑ k, Z 1 k) N + ε))
    + (β - Ideal.div (∑ k, Z 0 k + ∑ k, Z 1 k) N * (γ * Ideal.rsqrt (Ideal.div (∑ k, Z 0 k * Z 0 k + ∑ k, Z 1 k * Z 1 k) N
      - Ideal.div (∑ k, Z 0 k + ∑ k, Z 1 k) N * Ideal.div (∑ k, Z 0 k + ∑ k, Z 1 k) N + ε)))) 0

/-- The reference's mean of the group. -/
def rmean (Z : Fin 2 → Fin n → EReal) (N : EReal) : EReal := Ideal.div (∑ b, ∑ k, Z b k) N

/-- The reference's form of the same. -/
def rbn (Z : Fin 2 → Fin n → EReal) (N ε γ β x : EReal) : EReal :=
  max (Ideal.div (x - rmean Z N) (Ideal.sqrt (Ideal.div (∑ b, ∑ k, (Z b k - rmean Z N) * (Z b k - rmean Z N)) N + ε)) * γ + β) 0

/-- A finite sum of real numbers is the same number among the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real {N : ℝ} (hN : N ≠ 0) (x : ℝ) : Ideal.div (x : EReal) (N : EReal) = ((x / N : ℝ) : EReal) := by
  rw [Ideal.div_coe hN, ← EReal.coe_mul, one_div, div_eq_mul_inv]

theorem rsqrt_real {r : ℝ} (h : 0 < r) : Ideal.rsqrt (r : EReal) = (((Real.sqrt r)⁻¹ : ℝ) : EReal) := by
  show (if r < 0 then ⊥ else if r = 0 then ⊤ else (((Real.sqrt r)⁻¹ : ℝ) : EReal)) = _
  rw [if_neg h.not_gt, if_neg h.ne']

theorem sqrt_real {r : ℝ} (h : 0 < r) : Ideal.sqrt (r : EReal) = ((Real.sqrt r : ℝ) : EReal) := by
  show (if r < 0 then ⊥ else ((Real.sqrt r : ℝ) : EReal)) = _
  rw [if_neg h.not_gt]

/-- Mean and variance of the group as real numbers. -/
def mean (z : Fin 2 → Fin n → ℝ) (N : ℝ) : ℝ := (∑ b, ∑ k, z b k) / N
def variance (z : Fin 2 → Fin n → ℝ) (N : ℝ) : ℝ := (∑ b, ∑ k, (z b k - mean z N) * (z b k - mean z N)) / N

theorem variance_nonneg (z : Fin 2 → Fin n → ℝ) {N : ℝ} (hN : 0 < N) : 0 ≤ variance z N :=
  div_nonneg (Finset.sum_nonneg fun _ _ => Finset.sum_nonneg fun _ _ => mul_self_nonneg _) hN.le

/-- Mean of squares less squared mean is the mean squared deviation, `N` being the group's size. -/
theorem variance_eq (z : Fin 2 → Fin n → ℝ) {N : ℝ} (hN : N ≠ 0) (hn : N = 2 * n) :
    (∑ b, ∑ k, z b k * z b k) / N - mean z N * mean z N = variance z N := by
  have hS : ∑ b, ∑ k, z b k = mean z N * N := by rw [mean, div_mul_cancel₀ _ hN]
  have hD : ∑ b, ∑ k, (z b k - mean z N) * (z b k - mean z N)
      = ∑ b, ∑ k, z b k * z b k - mean z N * mean z N * N := by
    have hterm : ∀ b k, (z b k - mean z N) * (z b k - mean z N)
        = z b k * z b k - 2 * mean z N * z b k + mean z N * mean z N := fun b k => by ring
    simp only [hterm, Finset.sum_add_distrib, Finset.sum_sub_distrib, ← Finset.mul_sum, hS, Finset.sum_const,
      Finset.card_univ, Fintype.card_fin, nsmul_eq_mul]
    rw [hn]; push_cast; ring
  rw [variance, hD, sub_div, mul_div_cancel_right₀ _ hN]

/-- What both forms compute before the addend. -/
def normed (z : Fin 2 → Fin n → ℝ) (N e γ x : ℝ) : ℝ := (x - mean z N) / Real.sqrt (variance z N + e) * γ

theorem sum_two (f : Fin 2 → EReal) : f 0 + f 1 = ∑ b, f b := (Fin.sum_univ_two f).symm

section
variable (z : Fin 2 → Fin n → ℝ) {N e : ℝ} (hN : 0 < N) (he : 0 < e) (γ x : ℝ) (β : EReal)
include hN he

/-- The reference's form on finite data. -/
theorem rbn_eq : rbn (fun b k => (z b k : EReal)) N e γ β x = max ((normed z N e γ x : EReal) + β) 0 := by
  have hm : rmean (fun b k => (z b k : EReal)) N = (mean z N : EReal) := by
    simp only [rmean, coe_sum, div_real hN.ne']; rfl
  have hv : Ideal.div (∑ b, ∑ k, ((z b k : EReal) - (mean z N : EReal)) * ((z b k : EReal) - (mean z N : EReal))) N
      = (variance z N : EReal) := by
    simp only [← EReal.coe_sub, ← EReal.coe_mul, coe_sum, div_real hN.ne']; rfl
  have hs : 0 < variance z N + e := add_pos_of_nonneg_of_pos (variance_nonneg z hN) he
  rw [rbn, hm, hv, ← EReal.coe_add, sqrt_real hs, ← EReal.coe_sub, div_real (Real.sqrt_pos.2 hs).ne', ← EReal.coe_mul]
  rfl

/-- The kernel's form on finite data. -/
theorem kbn_eq (hn : N = 2 * n) :
    kbn (fun b k => (z b k : EReal)) N e γ β x = max ((normed z N e γ x : EReal) + β) 0 := by
  have hm : Ideal.div (∑ k, (z 0 k : EReal) + ∑ k, (z 1 k : EReal)) N = (mean z N : EReal) := by
    rw [sum_two fun b => ∑ k, (z b k : EReal)]; simp only [coe_sum, div_real hN.ne']; rfl
  have hq : Ideal.div (∑ k, (z 0 k : EReal) * (z 0 k : EReal) + ∑ k, (z 1 k : EReal) * (z 1 k : EReal)) N
      = (((∑ b, ∑ k, z b k * z b k) / N : ℝ) : EReal) := by
    rw [sum_two fun b => ∑ k, (z b k : EReal) * (z b k : EReal)]
    simp only [← EReal.coe_mul, coe_sum, div_real hN.ne']
  have hs : 0 < variance z N + e := add_pos_of_nonneg_of_pos (variance_nonneg z hN) he
  simp only [kbn, hm, hq]
  rw [← EReal.coe_mul, ← EReal.coe_sub, variance_eq z hN.ne' hn, ← EReal.coe_add, rsqrt_real hs]
  congr 1
  rw [← EReal.coe_mul, ← EReal.coe_mul, ← EReal.coe_mul, sub_eq_add_neg, add_comm β, ← add_assoc, ← EReal.coe_neg,
    ← EReal.coe_add]
  congr 2
  rw [normed, div_eq_mul_inv]; ring

theorem kbn_eq_rbn (hn : N = 2 * n) :
    kbn (fun b k => (z b k : EReal)) N e γ β x = rbn (fun b k => (z b k : EReal)) N e γ β x :=
  (kbn_eq z hN he γ x β hn).trans (rbn_eq z hN he γ x β).symm

/-- With a finite addend the value is finite. -/
theorem rbn_real (b : ℝ) :
    rbn (fun b k => (z b k : EReal)) N e γ b x = ((max (normed z N e γ x + b) 0 : ℝ) : EReal) := by
  rw [rbn_eq z hN he, ← EReal.coe_add, ← EReal.coe_zero]
  exact (EReal.coe_strictMono.monotone.map_max).symm

end

end Cert.Proof

end
-- ==== Proof.Block.lean ====
/-
  The accelerator call's block, element by element: the two stores of the kernel body, read at an index, are one graph
  convolution layer in the kernel's form of batch normalization (`kout`).
-/
module

public import proofs.«01_k».proof.Proof.Gen.KernelIdeal.Frame
public import proofs.«01_k».proof.Proof.BatchNorm

@[expose] public section

set_option maxRecDepth 16384

noncomputable section

namespace Cert.Proof

open Idealize.ShloMosaic Cert.KernelIdeal Cert.KernelIdeal.Gen

/-- The two group sizes and the `ε` under the root, as the programs write them. -/
abbrev n192 : EReal := Ideal.ofBits .f32 0x43400000#32
abbrev n4096 : EReal := Ideal.ofBits .f32 0x45800000#32
abbrev eps : EReal := Ideal.ofBits .f32 0x3727C5AC#32

section payloads
variable (v0 : Vec Ideal S2048x2048 .f32) (v1 v3 : Vec Ideal S1x2048x96 .f32) (v21 v26 : Vec Ideal S2048 .f32)
  (p : Fin 2048) (c d : Fin 96)

theorem pay5_at : k0_pay5 v0 v1 (ix2 p c) = ∑ q : Fin 2048, v0 (ix2 p q) * v1 (ix3 0 q c) := by
  pointwise [k0_pay5, k0_pay3]

theorem pay6_at : k0_pay6 v0 v3 (ix2 p c) = ∑ q : Fin 2048, v0 (ix2 p q) * v3 (ix3 0 q c) := by
  pointwise [k0_pay6, k0_pay4]

theorem pay7_at : k0_pay7 v0 v1 v3 (ix1 p)
    = Ideal.div (∑ c, k0_pay5 v0 v1 (ix2 p c) + ∑ c, k0_pay6 v0 v3 (ix2 p c)) n192 := by
  pointwise [k0_pay7]

theorem pay8_at : k0_pay8 v0 v1 v3 v21 (ix1 p)
    = v21 (ix1 p) * Ideal.rsqrt (Ideal.div (∑ c, k0_pay5 v0 v1 (ix2 p c) * k0_pay5 v0 v1 (ix2 p c)
        + ∑ c, k0_pay6 v0 v3 (ix2 p c) * k0_pay6 v0 v3 (ix2 p c)) n192
      - k0_pay7 v0 v1 v3 (ix1 p) * k0_pay7 v0 v1 v3 (ix1 p) + eps) := by
  pointwise [k0_pay8]

theorem pay9_at : k0_pay9 v0 v1 v3 v21 v26 (ix1 p)
    = v26 (ix1 p) - k0_pay7 v0 v1 v3 (ix1 p) * k0_pay8 v0 v1 v3 v21 (ix1 p) := by
  pointwise [k0_pay9]

theorem pay11_at : k0_pay11 v0 v1 v3 v21 (ix2 p c) = k0_pay8 v0 v1 v3 v21 (ix1 p) := by
  pointwise [k0_pay11]

theorem pay10_at : k0_pay10 v0 v1 v3 v21 v26 (ix2 p c)
    = max (k0_pay5 v0 v1 (ix2 p c) * k0_pay8 v0 v1 v3 v21 (ix1 p) + k0_pay9 v0 v1 v3 v21 v26 (ix1 p)) 0
      + v1 (ix3 0 p c) := by
  pointwise [k0_pay10, k0_pay3]

end payloads

section payloads2
variable (v4 v6 v37 v39 : FVec Ideal S2048x96 .f32) (v28 : FVec Ideal S2048 .f32) (v47 : Vec Ideal S96x96 .f32)
  (v65 v70 : Vec Ideal S96 .f32) (p : Fin 2048) (d : Fin 96)

theorem pay13_at : k0_pay13 v37 v47 (ix2 p d) = ∑ c : Fin 96, v37 (ix2 p c) * v47 (ix2 d c) := by
  pointwise [k0_pay13, k0_pay12]

theorem pay14_at : k0_pay14 v4 v6 v28 v39 v47 (ix2 p d)
    = ∑ c : Fin 96, (max (v6 (ix2 p c) * v39 (ix2 p c) + v28 (ix1 p)) 0 + v4 (ix2 p c)) * v47 (ix2 d c) := by
  pointwise [k0_pay14, k0_pay12]

theorem pay15_at : k0_pay15 v4 v6 v28 v37 v39 v47 (ix1 d)
    = Ideal.div (∑ p, k0_pay13 v37 v47 (ix2 p d) + ∑ p, k0_pay14 v4 v6 v28 v39 v47 (ix2 p d)) n4096 := by
  pointwise [k0_pay15]

theorem pay16_at : k0_pay16 v4 v6 v28 v37 v39 v47 v65 (ix1 d)
    = v65 (ix1 d) * Ideal.rsqrt (Ideal.div (∑ p, k0_pay13 v37 v47 (ix2 p d) * k0_pay13 v37 v47 (ix2 p d)
        + ∑ p, k0_pay14 v4 v6 v28 v39 v47 (ix2 p d) * k0_pay14 v4 v6 v28 v39 v47 (ix2 p d)) n4096
      - k0_pay15 v4 v6 v28 v37 v39 v47 (ix1 d) * k0_pay15 v4 v6 v28 v37 v39 v47 (ix1 d) + eps) := by
  pointwise [k0_pay16]

theorem pay17_at : k0_pay17 v4 v6 v28 v37 v39 v47 v65 v70 (ix1 d)
    = v70 (ix1 d) - k0_pay15 v4 v6 v28 v37 v39 v47 (ix1 d) * k0_pay16 v4 v6 v28 v37 v39 v47 v65 (ix1 d) := by
  pointwise [k0_pay17]

theorem pay18_at : k0_pay18 v4 v6 v28 v37 v39 v47 v65 v70 (ix2 p d)
    = max (k0_pay13 v37 v47 (ix2 p d) * k0_pay16 v4 v6 v28 v37 v39 v47 v65 (ix1 d)
      + k0_pay17 v4 v6 v28 v37 v39 v47 v65 v70 (ix1 d)) 0 := by
  pointwise [k0_pay18]

theorem pay1_at (v80 : FVec Ideal S2048x96 .f32) : k0_pay1 v80 (ix3 0 p d) = v80 (ix2 p d) := by
  pointwise [k0_pay1]

theorem pay2_at (v50 : FVec Ideal S2048x96 .f32) (v69 v72 : FVec Ideal S96 .f32) :
    k0_pay2 v50 v69 v72 (ix3 0 p d) = max (v50 (ix2 p d) * v69 (ix1 d) + v72 (ix1 d)) 0 := by
  pointwise [k0_pay2]

end payloads2

/-! ## The layer -/

section layer
variable (G : Vec Ideal S2x2048x96 .f32) (W : Vec Ideal S2048x2048 .f32) (ga ba : Vec Ideal S2048 .f32)
  (Wg : Vec Ideal S96x96 .f32) (gw bw : Vec Ideal S96 .f32)

/-- Node mixing: the rows that the first normalization groups, one group per node `p`. -/
def mixed (p : Fin 2048) (b : Fin 2) (c : Fin 96) : EReal := ∑ q : Fin 2048, W (ix2 p q) * G (ix3 b q c)

/-- The node after normalization, relu and the residual. -/
def knode (b : Fin 2) (p : Fin 2048) (c : Fin 96) : EReal :=
  kbn (mixed G W p) n192 eps (ga (ix1 p)) (ba (ix1 p)) (mixed G W p b c) + G (ix3 b p c)

/-- Channel mixing: the rows that the second normalization groups, one group per channel `d`. -/
def linear (H : Fin 2 → Fin 2048 → Fin 96 → EReal) (d : Fin 96) (b : Fin 2) (p : Fin 2048) : EReal :=
  ∑ c : Fin 96, H b p c * Wg (ix2 d c)

/-- What the block holds at `(b, p, d)`. -/
def kout (b : Fin 2) (p : Fin 2048) (d : Fin 96) : EReal :=
  kbn (linear Wg (knode G W ga ba) d) n4096 eps (gw (ix1 d)) (bw (ix1 d)) (linear Wg (knode G W ga ba) d b p)

/-- One batch entry of the points, as the body loads it. -/
def batch0 : Vec Ideal S1x2048x96 .f32 := View.ld G r0_1
def batch1 : Vec Ideal S1x2048x96 .f32 := View.ld G r0_2
theorem ld0 : View.ld G r0_1 = batch0 G := rfl
theorem ld1 : View.ld G r0_2 = batch1 G := rfl
theorem batch0_at (q : Fin 2048) (c : Fin 96) : batch0 G (ix3 0 q c) = G (ix3 0 q c) := by
  pointwise [batch0, r0_1]
theorem batch1_at (q : Fin 2048) (c : Fin 96) : batch1 G (ix3 0 q c) = G (ix3 1 q c) := by
  pointwise [batch1, r0_2]
theorem ldW : View.ld W r0_0 = W := View.ld_unit_zero (by decide) _ _
theorem ldN : View.ld ga r0_3 = ga := View.ld_unit_zero (by decide) _ _
theorem ldWg : View.ld Wg r0_4 = Wg := View.ld_unit_zero (by decide) _ _
theorem ldC : View.ld gw r0_5 = gw := View.ld_unit_zero (by decide) _ _

theorem pay5_mixed (p : Fin 2048) (c : Fin 96) : k0_pay5 W (batch0 G) (ix2 p c) = mixed G W p 0 c := by
  simp only [pay5_at, batch0_at]; rfl
theorem pay6_mixed (p : Fin 2048) (c : Fin 96) : k0_pay6 W (batch1 G) (ix2 p c) = mixed G W p 1 c := by
  simp only [pay6_at, batch1_at]; rfl

theorem pay22_at (p : Fin 2048) (c : Fin 96) : k0_pay22 G W ga ba Wg gw bw (ix2 p c) = knode G W ga ba 0 p c := by
  simp only [k0_pay22, ldW, ld0, ld1, pay10_at, pay9_at, pay8_at, pay7_at, pay5_mixed, pay6_mixed, ldN, batch0_at]; rfl

theorem pay13_linear (p : Fin 2048) (d : Fin 96) : k0_pay13 (k0_pay22 G W ga ba Wg gw bw) (View.ld Wg r0_4) (ix2 p d)
    = linear Wg (knode G W ga ba) d 0 p := by
  simp only [pay13_at, pay22_at, ldWg]; rfl

theorem pay14_linear (p : Fin 2048) (d : Fin 96) :
    k0_pay14 (k0_pay19 G W ga ba Wg gw bw) (k0_pay20 G W ga ba Wg gw bw) (k0_pay21 G W ga ba Wg gw bw)
      (k0_pay23 G W ga ba Wg gw bw) (View.ld Wg r0_4) (ix2 p d) = linear Wg (knode G W ga ba) d 1 p := by
  have h4 : ∀ c, k0_pay4 (batch1 G) (ix2 p c) = G (ix3 1 p c) := fun c => by
    rw [← batch1_at G]; pointwise [k0_pay4]
  simp only [k0_pay19, k0_pay20, k0_pay21, k0_pay23, ldW, ld0, ld1, pay14_at, pay11_at, pay9_at, pay8_at, pay7_at, pay5_mixed,
    pay6_mixed, ldN, ldWg, h4]
  rfl

theorem emb0 (p : Fin 2048) (d : Fin 96) : r0_1.emb (ix3 0 p d) = ix3 0 p d := by
  funext a
  fin_cases a <;> apply Fin.ext <;> simp [r0_1, ix3]

theorem emb1 (p : Fin 2048) (d : Fin 96) : r0_2.emb (ix3 0 p d) = ix3 1 p d := by
  funext a
  fin_cases a <;> apply Fin.ext <;> simp [r0_2, ix3]

/-- The layer as a block. -/
def kblock : Vec Ideal S2x2048x96 .f32 := fun y => kout G W ga ba Wg gw bw (y 0) (y 1) (y 2)

/-- The body leaves the layer's block. -/
theorem out_eq : out0_7 G W ga ba Wg gw bw = kblock G W ga ba Wg gw bw := by
  funext y
  unfold out0_7
  refine View.canon_apply_of_pieces (kblock G W ga ba Wg gw bw) _ ?_ y (cover0_7 _ _ y)
  intro pc hpc
  rcases List.mem_cons.1 hpc with rfl | hpc
  · intro x
    obtain ⟨z, p, d, rfl⟩ : ∃ (z : Fin 1) (p : Fin 2048) (d : Fin 96), x = ix3 z p d := ⟨x 0, x 1, x 2, eq_ix3 x⟩
    obtain rfl : z = 0 := Subsingleton.elim _ _
    rw [emb1]
    simp only [pay2_at, pay17_at, pay16_at, pay15_at, pay13_linear, pay14_linear, ldC]
    rfl
  · obtain rfl := List.mem_singleton.1 hpc
    intro x
    obtain ⟨z, p, d, rfl⟩ : ∃ (z : Fin 1) (p : Fin 2048) (d : Fin 96), x = ix3 z p d := ⟨x 0, x 1, x 2, eq_ix3 x⟩
    obtain rfl : z = 0 := Subsingleton.elim _ _
    rw [emb0]
    simp only [pay1_at, pay18_at, pay17_at, pay16_at, pay15_at, pay13_linear, pay14_linear, ldC]
    rfl

end layer

end Cert.Proof

end
-- ==== Proof.Host.lean ====
/-
  The host part of the kernel program as two functions: `points` selects the top-scored pixels' features, `place`
  writes the layer's result back at those pixels. Each stage names the operations as the program has them.
-/
module

public import proofs.«01_k».proof.Proof.Gen.KernelIdeal.Frame
public import Idealize.ShloMosaic.PureOps.Ideal

@[expose] public section

set_option maxRecDepth 16384

noncomputable section

namespace Cert.Proof

open Idealize.ShloMosaic Cert.KernelIdeal Cert.KernelIdeal.Gen

section stages
variable (x : Vec Ideal S2x96x512x512 .f32) (e : Vec Ideal S2x1x512x512 .f32)

/-- The edge scores, those below the threshold zeroed, one row per batch entry. -/
def scores : Vec Ideal S2x262144 .f32 :=
  shapeCast S2x262144
    (select (cmpf .olt e (broadcastInDim S2x1x512x512 ![] bcast_S_S2x1x512x512 (constant (F := Ideal) S_ .f32 0x3F4CCCCD#32)))
      (broadcastInDim S2x1x512x512 ![] bcast_S_S2x1x512x512 (constant (F := Ideal) S_ .f32 0x00000000#32)) e)
    shapeCasts_S2x1x512x512_S2x262144

/-- The pixels chosen, one list per batch entry. -/
def chosen : Vec Ideal S2x2048 .i32 :=
  (Host.topK S2x2048 1 (FloatOps.cmpfTotal (F := Ideal) (φ := .f32) .gt) (scores e) sliceFits_S2x262144_S2x2048).2

/-- The same list at every channel. -/
def picks : Vec Ideal S2x96x2048 .i32 :=
  broadcastInDim S2x96x2048 ![0, 1, 2] bcast_S2x1x2048_S2x96x2048_0_1_2
    (broadcastInDim S2x1x2048 ![0, 2] bcast_S2x2048_S2x1x2048_0_2 (chosen e))

/-- The feature map, its pixels in one row. -/
def flat : Vec Ideal S2x96x262144 .f32 := shapeCast S2x96x262144 x shapeCasts_S2x96x512x512_S2x96x262144

/-- An index list, a negative entry counted from the end. -/
def wrapped (i : Vec Ideal S2x96x2048 .i32) : Vec Ideal S2x96x2048 .i32 :=
  select (cmpi .slt i (broadcastInDim S2x96x2048 ![] bcast_S_S2x96x2048 (constantI S_ 32 0#32)))
    (addi i (broadcastInDim S2x96x2048 ![] bcast_S_S2x96x2048 (constantI S_ 32 262144#32))) i

/-- The list with a unit axis at its end. -/
def listed (i : Vec Ideal S2x96x2048 .i32) : Vec Ideal S2x96x2048x1 .i32 :=
  shapeCast S2x96x2048x1 (wrapped i) shapeCasts_S2x96x2048_S2x96x2048x1

/-- Where the list's entries lie inside the row. -/
def inside (i : Vec Ideal S2x96x2048x1 .i32) : Vec Ideal S2x96x2048 .i1 :=
  Host.reduce IntOp.andi
    (andi (cmpi .sge i (broadcastInDim S2x96x2048x1 ![] bcast_S_S2x96x2048x1 (constantI S_ 32 0#32)))
      (cmpi .sle i (broadcastInDim S2x96x2048x1 ![0, 1, 2, 3] bcast_S1x1x1x1_S2x96x2048x1_0_1_2_3
        (broadcastInDim S1x1x1x1 ![3] bcast_S1_S1x1x1x1_3 (constantI S1 32 262143#32)))))
    (constantI S_ 1 1#1) reducesTo_S2x96x2048x1_S2x96x2048_d3 h_S_

/-- The row's entries that the list names; NaN where it leaves the row. -/
def taken (f : Vec Ideal S2x96x262144 .f32) (i : Vec Ideal S2x96x2048 .i32) : Vec Ideal S2x96x2048 .f32 :=
  select (inside (listed i))
    (Host.gather gather_S2x96x262144_S2x96x2048x1_S2x96x2048_n_2_01_01_2_3_111 f (listed i))
    (broadcastInDim S2x96x2048 ![] bcast_S_S2x96x2048 (constant (F := Ideal) S_ .f32 0x7FC00000#32))

/-- The chosen pixels' features, as the accelerator call takes them: batch, pixel, channel. -/
def points : Vec Ideal S2x2048x96 .f32 :=
  transpose S2x2048x96 [0, 2, 1] (taken (flat x) (picks e)) transposes_S2x96x2048_S2x2048x96_0_2_1

/-- The batch numbers and channel numbers of the write-back, as index lists. -/
def batchNo : Vec Ideal S2x1x1 .i32 := broadcastInDim S2x1x1 ![0] bcast_S2_S2x1x1_0 (iotaInDim S2 32 0)
def channelNo : Vec Ideal S1x96x1 .i32 := broadcastInDim S1x96x1 ![1] bcast_S96_S1x96x1_1 (iotaInDim S96 32 0)

/-- Where the write-back puts each element: batch, channel, pixel. -/
def targets (i : Vec Ideal S2x96x2048 .i32) : Vec Ideal S2x96x2048x3 .i32 :=
  concatenate S2x96x2048x3 3
    [⟨S2x96x2048x1, (broadcastInDim S2x96x2048x1 ![0, 1, 2] bcast_S2x96x2048_S2x96x2048x1_0_1_2
        (broadcastInDim S2x96x2048 ![0, 1, 2] bcast_S2x1x1_S2x96x2048_0_1_2
          (select (cmpi .slt batchNo (broadcastInDim S2x1x1 ![] bcast_S_S2x1x1 (constantI S_ 32 0#32)))
            (addi batchNo (broadcastInDim S2x1x1 ![] bcast_S_S2x1x1 (constantI S_ 32 2#32))) batchNo)) :
          Vec Ideal S2x96x2048x1 .i32)⟩,
     ⟨S2x96x2048x1, (broadcastInDim S2x96x2048x1 ![0, 1, 2] bcast_S2x96x2048_S2x96x2048x1_0_1_2
        (broadcastInDim S2x96x2048 ![0, 1, 2] bcast_S1x96x1_S2x96x2048_0_1_2
          (select (cmpi .slt channelNo (broadcastInDim S1x96x1 ![] bcast_S_S1x96x1 (constantI S_ 32 0#32)))
            (addi channelNo (broadcastInDim S1x96x1 ![] bcast_S_S1x96x1 (constantI S_ 32 96#32))) channelNo)) :
          Vec Ideal S2x96x2048x1 .i32)⟩,
     ⟨S2x96x2048x1, (broadcastInDim S2x96x2048x1 ![0, 1, 2] bcast_S2x96x2048_S2x96x2048x1_0_1_2 (wrapped i) :
          Vec Ideal S2x96x2048x1 .i32)⟩]
    concatenates_S2x96x2048x1_S2x96x2048x1_S2x96x2048x1_S2x96x2048x3_d3

/-- The feature map with `u` (batch, channel, pixel) written at the chosen pixels. -/
def place (u : Vec Ideal S2x96x2048 .f32) : Vec Ideal S2x96x512x512 .f32 :=
  shapeCast S2x96x512x512
    (Host.scatter scatter_S2x96x262144_S2x96x2048x3_S2x96x2048_n_012_012_3 (fun _ b => b) (flat x) (targets (picks e)) u)
    shapeCasts_S2x96x262144_S2x96x512x512

end stages

/-! ## The host operations compute the stages -/

open StableHlo

variable (L : Valuation τ sig (Elt Ideal))

set_option maxHeartbeats 2000000 in
theorem first_v4 : after (hostOps0 ++ (hostOps0_1 ++ hostOps0_2)) L (Proc.devRef .tc main_v4) = flat (L (Proc.devRef .tc main_arg0)) := by
  simp only [List.cons_append, List.nil_append, TRef.binary, TRef.nullary, TRef.reshape, TRef.ternary, TRef.unary, TRef.toBuf, TRef.ofBuf, cast_eq]
  after_results_simp
  rfl

set_option maxHeartbeats 2000000 in
theorem first_v6 : after (hostOps0 ++ (hostOps0_1 ++ hostOps0_2)) L (Proc.devRef .tc main_v6) = picks (L (Proc.devRef .tc main_arg1)) := by
  simp only [List.cons_append, List.nil_append, TRef.binary, TRef.nullary, TRef.reshape, TRef.ternary, TRef.unary, TRef.toBuf, TRef.ofBuf, cast_eq]
  after_results_simp
  rfl

set_option maxHeartbeats 2000000 in
theorem second_v7 : after hostOps0_3 L (Proc.devRef .tc main_v7)
    = taken (L (Proc.devRef .tc main_v4)) (L (Proc.devRef .tc main_v6)) := by
  simp only [hostOps0, hostOps0_1, hostOps0_2, hostOps0_3, TRef.binary, TRef.nullary, TRef.reshape, TRef.ternary, TRef.unary, TRef.toBuf, TRef.ofBuf, cast_eq]
  after_results_simp
  rfl

theorem third_v8 : after hostOps0_4 L (Proc.devRef .tc main_v8)
    = transpose S2x2048x96 [0, 2, 1] (L (Proc.devRef .tc main_v7)) transposes_S2x96x2048_S2x2048x96_0_2_1 := by
  after_results_simp

set_option maxHeartbeats 2000000 in
theorem tail_v37 : after hostOps1 L (Proc.devRef .tc main_v37)
    = shapeCast S2x96x512x512
    (Host.scatter scatter_S2x96x262144_S2x96x2048x3_S2x96x2048_n_012_012_3 (fun _ b => b) (L (Proc.devRef .tc main_v4))
      (targets (L (Proc.devRef .tc main_v6)))
      (transpose S2x96x2048 [0, 2, 1] (L (Proc.devRef .tc main_v9)) transposes_S2x2048x96_S2x96x2048_0_2_1))
    shapeCasts_S2x96x262144_S2x96x512x512 := by
  after_results_simp
  rfl

end Cert.Proof

end
-- ==== Proof.KernelRun.lean ====
/-
  The kernel program's run: its result is the feature map with the layer's block, transposed, written at the chosen
  pixels.
-/
module

public import proofs.«01_k».proof.Proof.Block
public import proofs.«01_k».proof.Proof.Host
public import Idealize.ShloMosaic.Lib.Pipeline.ValueKit

@[expose] public section

set_option maxRecDepth 16384

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ) (c : Dev nD)

/-- The program's arguments on device `c`. -/
abbrev argX : Vec Ideal S2x96x512x512 .f32 := m ((c.tc : Thread nD τ).loc main_arg0)
abbrev argE : Vec Ideal S2x1x512x512 .f32 := m ((c.tc : Thread nD τ).loc main_arg1)
abbrev argW : Vec Ideal S2048x2048 .f32 := m ((c.tc : Thread nD τ).loc main_arg2)
abbrev argGa : Vec Ideal S2048 .f32 := m ((c.tc : Thread nD τ).loc main_arg3)
abbrev argBa : Vec Ideal S2048 .f32 := m ((c.tc : Thread nD τ).loc main_arg4)
abbrev argWg : Vec Ideal S96x96 .f32 := m ((c.tc : Thread nD τ).loc main_arg5)
abbrev argGw : Vec Ideal S96 .f32 := m ((c.tc : Thread nD τ).loc main_arg6)
abbrev argBw : Vec Ideal S96 .f32 := m ((c.tc : Thread nD τ).loc main_arg7)

/-! ## What the call finds -/

theorem V0_eq : V0 m c = StableHlo.after hostOps0_4 (StableHlo.after hostOps0_3
    (StableHlo.after (hostOps0 ++ (hostOps0_1 ++ hostOps0_2)) fun b => m (c, b))) := by
  simp only [V0, List.flatten_cons, List.flatten_nil, List.append_nil, StableHlo.after_append]

theorem keep_second (L : Valuation τ sig (Elt Ideal)) (r : Ref sig .tc) (h : r = main_v4 ∨ r = main_v6) :
    StableHlo.after hostOps0_4 (StableHlo.after hostOps0_3 L) (Proc.devRef .tc r) = L (Proc.devRef .tc r) := by
  rcases h with rfl | rfl <;>
  · simp only [hostOps0_3, hostOps0_4, StableHlo.TRef.binary, StableHlo.TRef.nullary, StableHlo.TRef.reshape,
      StableHlo.TRef.ternary, StableHlo.TRef.unary]
    after_results_simp

theorem V_v4 : V m c main_v4 = flat (argX m c) := by
  rw [V, V0_eq, keep_second _ _ (.inl rfl), first_v4]

theorem V_v6 : V m c main_v6 = picks (argE m c) := by
  rw [V, V0_eq, keep_second _ _ (.inr rfl), first_v6]

theorem V_v8 : V m c main_v8 = points (argX m c) (argE m c) := by
  rw [V, V0_eq, third_v8, second_v7, first_v4, first_v6]
  rfl

/-! ## What the call leaves -/

/-! The one point's blocks are the arrays. -/
theorem idx0 : win0_0.index t0_0 = fun _ => 0 := by decide
theorem idx1 : win0_1.index t0_0 = fun _ => 0 := by decide
theorem idx2 : win0_2.index t0_0 = fun _ => 0 := by decide
theorem idx3 : win0_3.index t0_0 = fun _ => 0 := by decide
theorem idx4 : win0_4.index t0_0 = fun _ => 0 := by decide
theorem idx5 : win0_5.index t0_0 = fun _ => 0 := by decide
theorem idx6 : win0_6.index t0_0 = fun _ => 0 := by decide
theorem idx7 : win0_7.index t0_0 = fun _ => 0 := by decide

theorem iblk0 : iblk m c 0 t0_0 = V m c main_v8 :=
  funext fun y => congrArg (V m c main_v8) (show ((cfg0.win 0).blk t0_0).view.emb y = y by blk_ext [idx0])
theorem iblk1 : iblk m c 1 t0_0 = V m c main_arg2 :=
  funext fun y => congrArg (V m c main_arg2) (show ((cfg0.win 1).blk t0_0).view.emb y = y by blk_ext [idx1])
theorem iblk2 : iblk m c 2 t0_0 = V m c main_arg3 :=
  funext fun y => congrArg (V m c main_arg3) (show ((cfg0.win 2).blk t0_0).view.emb y = y by blk_ext [idx2])
theorem iblk3 : iblk m c 3 t0_0 = V m c main_arg4 :=
  funext fun y => congrArg (V m c main_arg4) (show ((cfg0.win 3).blk t0_0).view.emb y = y by blk_ext [idx3])
theorem iblk4 : iblk m c 4 t0_0 = V m c main_arg5 :=
  funext fun y => congrArg (V m c main_arg5) (show ((cfg0.win 4).blk t0_0).view.emb y = y by blk_ext [idx4])
theorem iblk5 : iblk m c 5 t0_0 = V m c main_arg6 :=
  funext fun y => congrArg (V m c main_arg6) (show ((cfg0.win 5).blk t0_0).view.emb y = y by blk_ext [idx5])
theorem iblk6 : iblk m c 6 t0_0 = V m c main_arg7 :=
  funext fun y => congrArg (V m c main_arg7) (show ((cfg0.win 6).blk t0_0).view.emb y = y by blk_ext [idx6])

/-- The layer's block on the program's arguments. -/
def kres : Vec Ideal S2x2048x96 .f32 :=
  kblock (points (argX m c) (argE m c)) (argW m c) (argGa m c) (argBa m c) (argWg m c) (argGw m c) (argBw m c)

theorem after7 : (dats m 0 c).after 7 t0_0 = kres m c := by
  rw [after0_7, iblk0, iblk1, iblk2, iblk3, iblk4, iblk5, iblk6, V_v8, V_main_arg2, V_main_arg3, V_main_arg4, V_main_arg5,
    V_main_arg6, V_main_arg7, out_eq]
  rfl

theorem arr7 : (dats m 0 c).arrAt 7 (cfgs 0).N = kres m c := by
  refine (dats m 0 c).arrAt_eq_of_after_last 7 t0_0 (by decide +kernel) _ fun j => ?_
  rw [after7]
  refine congrArg (kres m c) (?_ : j = _)
  blk_ext [idx7]

theorem result_eq : Pipeline.afterTail₀ cfgs (dats m) 0 (V0 m) [hostOps1] c main_v37
    = place (argX m c) (argE m c)
      (transpose S2x96x2048 [0, 2, 1] (kres m c) transposes_S2x2048x96_S2x96x2048_0_2_1) := by
  unfold Pipeline.afterTail₀
  rw [List.flatten_cons, List.flatten_nil, List.append_nil, tail_v37,
    Pipeline.withArrays_of_ne _ c (V0 m c) _ main_v4 (by exact (by decide : ∀ w, Pipeline.arrRef spec0 w ≠ main_v4)),
    Pipeline.withArrays_of_ne _ c (V0 m c) _ main_v6 (by exact (by decide : ∀ w, Pipeline.arrRef spec0 w ≠ main_v6)),
    show Pipeline.withArrays (cfgs 0).spec c (V0 m c) (fun w => (dats m 0 c).arrAt w (cfgs 0).N) (Proc.devRef .tc main_v9)
      = kres m c from (Pipeline.withArrays_arr _ launch0.win.arr_inj c (V0 m c) _ 7).trans (arr7 m c)]
  rw [show V0 m c (Proc.devRef .tc main_v4) = flat (argX m c) from V_v4 m c,
    show V0 m c (Proc.devRef .tc main_v6) = picks (argE m c) from V_v6 m c]
  rfl

/-- THE RUN: the result is the layer written at the chosen pixels, the arguments end unchanged. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v37) = place (argX m c) (argE m c)
        (transpose S2x96x2048 [0, 2, 1] (kres m c) transposes_S2x2048x96_S2x96x2048_0_2_1) :=
  (θ_run defs _ _).mono (fun _ h c => ((h c).2 main_v37 (Pipeline.mem_restRefs_of main_v37 (by decide) (by decide))).trans
    (result_eq m c)) (run_main m ρ)

end Cert.Proof

end
-- ==== Proof.Layer.lean ====
/-
  The reference's layer, element by element: the operations its run composes, named in stages and read at an index.
-/
module

public import proofs.«01_k».proof.Proof.Gen.ReferenceIdeal
public import proofs.«01_k».proof.Proof.Block

@[expose] public section

set_option maxRecDepth 16384

noncomputable section

namespace Cert.Proof.Ref

open Idealize.ShloMosaic Cert.ReferenceIdeal Cert.ReferenceIdeal.Gen

/-! ## The constants -/

theorem n192_eq : n192 = ((192 : ℝ) : EReal) := by
  simp [n192, Ideal.ofBits, Ideal.ieee, -EReal.coe_mul]; norm_num

theorem n4096_eq : n4096 = ((4096 : ℝ) : EReal) := by
  simp [n4096, Ideal.ofBits, Ideal.ieee, -EReal.coe_mul]; norm_num

theorem eps_eq : eps = ((10995116 * 2⁻¹ ^ 40 : ℝ) : EReal) := by
  simp [eps, Ideal.ofBits, Ideal.ieee, -EReal.coe_mul]

/-! ## A sum over the outer and the inner axis -/

section outer
variable {a n k : ℕ} (h : (⟨3, ![a, n, k]⟩ : Shape).ReducesTo [0, 2] ⟨1, ![n]⟩)

theorem drop_outer (p : Fin n) (i : (⟨3, ![a, n, k]⟩ : Shape).Idx) :
    h.drop i = ix1 p ↔ ∃ q : Fin a × Fin k, ix3 q.1 p q.2 = i := by
  constructor
  · intro e
    refine ⟨(i 0, i 2), ?_⟩
    have e1 : (i 1).val = p.val := congrArg Fin.val (congrFun e 0)
    funext d
    apply Fin.ext
    match d with
    | ⟨0, _⟩ => rfl
    | ⟨1, _⟩ => exact e1.symm
    | ⟨2, _⟩ => rfl
  · rintro ⟨q, rfl⟩
    funext d
    apply Fin.ext
    match d with
    | ⟨0, _⟩ => rfl

theorem sum_outer (v : (⟨3, ![a, n, k]⟩ : Shape).Idx → EReal) (init : EReal) (p : Fin n) :
    Ideal.hostReduceAdd h v init (ix1 p) = init + ∑ b : Fin a, ∑ q : Fin k, v (ix3 b p q) := by
  refine congrArg (init + ·) ?_
  rw [Finset.sum_filter_eq_sum_of_fiber _ (fun q : Fin a × Fin k => ix3 q.1 p q.2)
    (fun _ _ e => Prod.ext (congrFun e 0) (congrFun e 2)) (drop_outer h p) v, Fintype.sum_prod_type]

end outer

/-! ## The normalization of the nodes -/

section nodes
variable (Y : FVec Ideal S2x2048x96 .f32) (ga ba : FVec Ideal S2048 .f32)

def nodeSum : FVec Ideal S1x2048x1 .f32 :=
  broadcastInDim S1x2048x1 ![1] bcast_S2048_S1x2048x1_1
    (Host.reduceAdd Y (constant S_ .f32 0x00000000#32) reducesTo_S2x2048x96_S2048_d0_2 h_S_)

/-- The deviation from the node's mean. -/
def nodeDev : FVec Ideal S2x2048x96 .f32 :=
  subf Y (broadcastInDim S2x2048x96 ![0, 1, 2] bcast_S1x2048x1_S2x2048x96_0_1_2
    (Host.divf (nodeSum Y) (broadcastInDim S1x2048x1 ![] bcast_S_S1x2048x1 (constant S_ .f32 0x43400000#32))))

def nodeCount : FVec Ideal S_ .f32 := subf (constant S_ .f32 0x43400000#32) (sitofp .f32 (constantI S_ 32 0#32))

def nodeVar : FVec Ideal S1x2048x1 .f32 :=
  select (broadcastInDim S1x2048x1 ![] bcast_S_S1x2048x1 (cmpf .ogt nodeCount (constant S_ .f32 0x00000000#32)))
    (Host.divf (nodeSum (mulf (nodeDev Y) (nodeDev Y))) (broadcastInDim S1x2048x1 ![] bcast_S_S1x2048x1 nodeCount))
    (broadcastInDim S1x2048x1 ![] bcast_S_S1x2048x1 (id (constant S_ .f32 0x7FC00000#32)))

def nodeScaled : FVec Ideal S2x2048x96 .f32 :=
  Host.divf (nodeDev Y) (broadcastInDim S2x2048x96 ![0, 1, 2] bcast_S1x2048x1_S2x2048x96_0_1_2
    (Host.sqrt (addf (nodeVar Y) (broadcastInDim S1x2048x1 ![] bcast_S_S1x2048x1 (constant S_ .f32 0x3727C5AC#32)))))

def nodeNorm : FVec Ideal S2x2048x96 .f32 :=
  maximumf (addf (mulf (nodeScaled Y)
      (broadcastInDim S2x2048x96 ![0, 1, 2] bcast_S1x2048x1_S2x2048x96_0_1_2 (broadcastInDim S1x2048x1 ![1] bcast_S2048_S1x2048x1_1 ga)))
      (broadcastInDim S2x2048x96 ![0, 1, 2] bcast_S1x2048x1_S2x2048x96_0_1_2 (broadcastInDim S1x2048x1 ![1] bcast_S2048_S1x2048x1_1 ba)))
    (broadcastInDim S2x2048x96 ![] bcast_S_S2x2048x96 (constant S_ .f32 0x00000000#32))

variable (b : Fin 2) (p : Fin 2048) (c : Fin 96)

theorem nodeSum_at : nodeSum Y (ix3 0 p 0) = ∑ b : Fin 2, ∑ c : Fin 96, Y (ix3 b p c) := by
  pointwise [nodeSum, sum_outer]

theorem nodeDev_at : nodeDev Y (ix3 b p c) = Y (ix3 b p c) - rmean (fun b c => Y (ix3 b p c)) n192 := by
  pointwise [nodeDev, nodeSum_at]
  rfl

theorem nodeCount_at (j : S_.Idx) : nodeCount j = n192 := by
  show Ideal.ofBits .f32 0x43400000#32 - (((0#32 : BitVec 32).toInt : ℝ) : EReal) = n192
  simp [n192]

theorem nodeCount_pos : cmpf .ogt nodeCount (constant S_ .f32 0x00000000#32) = fun _ => 1#1 := by
  funext j
  show BitVec.ofBool (decide (Ideal.ofBits .f32 0x00000000#32 < nodeCount j)) = 1#1
  rw [nodeCount_at, n192_eq, Ideal.ofBits_zero_f32, decide_eq_true (EReal.coe_pos.mpr (by norm_num))]
  rfl

theorem nodeVar_at : nodeVar Y (ix3 0 p 0)
    = Ideal.div (∑ b : Fin 2, ∑ c : Fin 96, (Y (ix3 b p c) - rmean (fun b c => Y (ix3 b p c)) n192)
        * (Y (ix3 b p c) - rmean (fun b c => Y (ix3 b p c)) n192)) n192 := by
  rw [nodeVar, nodeCount_pos]
  pointwise [nodeSum_at, nodeCount_at, nodeDev_at]

theorem nodeNorm_at : nodeNorm Y ga ba (ix3 b p c)
    = rbn (fun b c => Y (ix3 b p c)) n192 eps (ga (ix1 p)) (ba (ix1 p)) (Y (ix3 b p c)) := by
  pointwise [nodeNorm, nodeScaled, nodeVar_at, nodeDev_at]
  rfl

end nodes

/-! ## The normalization of the channels -/

section channels
variable (Y : FVec Ideal S2x96x2048 .f32) (gw bw : FVec Ideal S96 .f32)

def chanSum : FVec Ideal S1x96x1 .f32 :=
  broadcastInDim S1x96x1 ![1] bcast_S96_S1x96x1_1
    (Host.reduceAdd Y (constant S_ .f32 0x00000000#32) reducesTo_S2x96x2048_S96_d0_2 h_S_)

/-- The deviation from the channel's mean. -/
def chanDev : FVec Ideal S2x96x2048 .f32 :=
  subf Y (broadcastInDim S2x96x2048 ![0, 1, 2] bcast_S1x96x1_S2x96x2048_0_1_2
    (Host.divf (chanSum Y) (broadcastInDim S1x96x1 ![] bcast_S_S1x96x1 (constant S_ .f32 0x45800000#32))))

def chanCount : FVec Ideal S_ .f32 := subf (constant S_ .f32 0x45800000#32) (sitofp .f32 (constantI S_ 32 0#32))

def chanVar : FVec Ideal S1x96x1 .f32 :=
  select (broadcastInDim S1x96x1 ![] bcast_S_S1x96x1 (cmpf .ogt chanCount (constant S_ .f32 0x00000000#32)))
    (Host.divf (chanSum (mulf (chanDev Y) (chanDev Y))) (broadcastInDim S1x96x1 ![] bcast_S_S1x96x1 chanCount))
    (broadcastInDim S1x96x1 ![] bcast_S_S1x96x1 (id (constant S_ .f32 0x7FC00000#32)))

def chanScaled : FVec Ideal S2x96x2048 .f32 :=
  Host.divf (chanDev Y) (broadcastInDim S2x96x2048 ![0, 1, 2] bcast_S1x96x1_S2x96x2048_0_1_2
    (Host.sqrt (addf (chanVar Y) (broadcastInDim S1x96x1 ![] bcast_S_S1x96x1 (constant S_ .f32 0x3727C5AC#32)))))

def chanNorm : FVec Ideal S2x96x2048 .f32 :=
  maximumf (addf (mulf (chanScaled Y)
      (broadcastInDim S2x96x2048 ![0, 1, 2] bcast_S1x96x1_S2x96x2048_0_1_2 (broadcastInDim S1x96x1 ![1] bcast_S96_S1x96x1_1 gw)))
      (broadcastInDim S2x96x2048 ![0, 1, 2] bcast_S1x96x1_S2x96x2048_0_1_2 (broadcastInDim S1x96x1 ![1] bcast_S96_S1x96x1_1 bw)))
    (broadcastInDim S2x96x2048 ![] bcast_S_S2x96x2048 (constant S_ .f32 0x00000000#32))

variable (b : Fin 2) (d : Fin 96) (p : Fin 2048)

theorem chanSum_at : chanSum Y (ix3 0 d 0) = ∑ b : Fin 2, ∑ p : Fin 2048, Y (ix3 b d p) := by
  pointwise [chanSum, sum_outer]

theorem chanDev_at : chanDev Y (ix3 b d p) = Y (ix3 b d p) - rmean (fun b p => Y (ix3 b d p)) n4096 := by
  pointwise [chanDev, chanSum_at]
  rfl

theorem chanCount_at (j : S_.Idx) : chanCount j = n4096 := by
  show Ideal.ofBits .f32 0x45800000#32 - (((0#32 : BitVec 32).toInt : ℝ) : EReal) = n4096
  simp [n4096]

theorem chanCount_pos : cmpf .ogt chanCount (constant S_ .f32 0x00000000#32) = fun _ => 1#1 := by
  funext j
  show BitVec.ofBool (decide (Ideal.ofBits .f32 0x00000000#32 < chanCount j)) = 1#1
  rw [chanCount_at, n4096_eq, Ideal.ofBits_zero_f32, decide_eq_true (EReal.coe_pos.mpr (by norm_num))]
  rfl

theorem chanVar_at : chanVar Y (ix3 0 d 0)
    = Ideal.div (∑ b : Fin 2, ∑ p : Fin 2048, (Y (ix3 b d p) - rmean (fun b p => Y (ix3 b d p)) n4096)
        * (Y (ix3 b d p) - rmean (fun b p => Y (ix3 b d p)) n4096)) n4096 := by
  rw [chanVar, chanCount_pos]
  pointwise [chanSum_at, chanCount_at, chanDev_at]

theorem chanNorm_at : chanNorm Y gw bw (ix3 b d p)
    = rbn (fun b p => Y (ix3 b d p)) n4096 eps (gw (ix1 d)) (bw (ix1 d)) (Y (ix3 b d p)) := by
  pointwise [chanNorm, chanScaled, chanVar_at, chanDev_at]
  rfl

end channels

/-! ## The layer -/

section layer
variable (G : FVec Ideal S2x2048x96 .f32) (W : FVec Ideal S2048x2048 .f32) (ga ba : FVec Ideal S2048 .f32)
  (H : FVec Ideal S2x2048x96 .f32) (Wg : FVec Ideal S96x96 .f32) (gw bw : FVec Ideal S96 .f32)

/-- The nodes mixed by `W`. -/
def mix : FVec Ideal S2x2048x96 .f32 :=
  transpose S2x2048x96 [0, 2, 1] (Host.dotGeneral dot_S2x2048x96_S2048x2048_S2x96x2048_1_1_02_0_n_n none G W)
    transposes_S2x96x2048_S2x2048x96_0_2_1

/-- The nodes after normalization, relu and the residual. -/
def nodes : FVec Ideal S2x2048x96 .f32 := addf (nodeNorm (mix G W) ga ba) G

/-- The channels mixed by `Wg`; result batch, channel, pixel. -/
def lin : FVec Ideal S2x96x2048 .f32 :=
  transpose S2x96x2048 [0, 2, 1] (Host.dotGeneral dot_S2x96x2048_S96x96_S2x2048x96_1_1_02_0_n_n none
    (transpose S2x96x2048 [0, 2, 1] H transposes_S2x2048x96_S2x96x2048_0_2_1) Wg)
    transposes_S2x2048x96_S2x96x2048_0_2_1

/-- What the reference writes back. -/
def update : FVec Ideal S2x96x2048 .f32 := chanNorm (lin (nodes G W ga ba) Wg) gw bw

variable (b : Fin 2) (p : Fin 2048) (c d : Fin 96)

theorem mix_at : mix G W (ix3 b p c) = mixed G W p b c := by
  pointwise [mix]
  exact Finset.sum_congr rfl fun q _ => mul_comm _ _

theorem lin_at : lin H Wg (ix3 b d p) = linear Wg (fun b p c => H (ix3 b p c)) d b p := by
  pointwise [lin]
  rfl

theorem nodes_at : nodes G W ga ba (ix3 b p c)
    = rbn (mixed G W p) n192 eps (ga (ix1 p)) (ba (ix1 p)) (mixed G W p b c) + G (ix3 b p c) := by
  pointwise [nodes, nodeNorm_at, mix_at]

theorem update_at : update G W ga ba Wg gw bw (ix3 b d p)
    = rbn (linear Wg (fun b p c => nodes G W ga ba (ix3 b p c)) d) n4096 eps (gw (ix1 d)) (bw (ix1 d))
        (linear Wg (fun b p c => nodes G W ga ba (ix3 b p c)) d b p) := by
  rw [update, chanNorm_at]
  simp only [lin_at]

end layer

end Cert.Proof.Ref

end
-- ==== Proof.ReferenceRun.lean ====
/-
  The reference's run: its result is the feature map with the layer's `update` written at the chosen pixels.
-/
module

public import proofs.«01_k».proof.Proof.Gen.ReferenceIdeal.Run
public import proofs.«01_k».proof.Proof.Layer
public import proofs.«01_k».proof.Proof.Host

@[expose] public section

set_option maxRecDepth 16384

noncomputable section

namespace Cert.Proof.Ref

open Idealize.ShloMosaic Idealize.SL.Sem Idealize.ShloMosaic.StableHlo
open Cert.ReferenceIdeal Cert.ReferenceIdeal.Gen Cert.ReferenceIdeal.Value

section stages
variable (L : Valuation τ sig (Elt Ideal))

theorem flat_eq : res_main_v4 L = flat (L (Proc.devRef .tc main_arg0)) := rfl

theorem picks_eq : res_main_v6 L = picks (L (Proc.devRef .tc main_arg1)) := rfl

theorem points_eq : res_main_v8 L = points (L (Proc.devRef .tc main_arg0)) (L (Proc.devRef .tc main_arg1)) := by
  rw [res_main_v8, res_main_call1_v5, picks_eq, flat_eq]
  rfl

theorem mix_eq : res_main_v10 L = mix (res_main_v8 L) (L (Proc.devRef .tc main_arg2)) := rfl

theorem lin_eq : res_main_v33 L
    = lin (nodes (res_main_v8 L) (L (Proc.devRef .tc main_arg2)) (L (Proc.devRef .tc main_arg3)) (L (Proc.devRef .tc main_arg4)))
        (L (Proc.devRef .tc main_arg5)) := by
  rw [res_main_v33, res_main_call2_v5, mix_eq]
  rfl

end stages

variable (m : (ℓ : Loc nD τ sig) → Buf (Elt Ideal) ℓ)

/-- What the reference leaves, of its arguments' arrays. -/
def result (c : Dev nD) : Buf (Elt Ideal) ((c.tc : Thread nD τ).loc main_v79) :=
  place (m ((c.tc : Thread nD τ).loc main_arg0)) (m ((c.tc : Thread nD τ).loc main_arg1))
    (update (points (m ((c.tc : Thread nD τ).loc main_arg0)) (m ((c.tc : Thread nD τ).loc main_arg1)))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)))

theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v79) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (by
    rw [picks_eq, flat_eq, res_main_call4_v5, lin_eq, points_eq]
    rfl), (h c).2⟩) (Value.run m ρ)

end Cert.Proof.Ref

end
-- ==== Proof.Points.lean ====
/-
  The chosen pixels lie inside the row, so their features are features of the map: finite where the map is.
-/
module

public import proofs.«01_k».proof.Proof.Host
public import Idealize.ShloMosaic.Lib.ReduceAll
public import Idealize.ShloMosaic.Lib.Pointwise

@[expose] public section

set_option maxRecDepth 16384

noncomputable section

namespace Cert.Proof

open Idealize.ShloMosaic Cert.KernelIdeal Cert.KernelIdeal.Gen

/-- Every element a real number. -/
def Finite {s : Shape} (v : s.Idx → EReal) : Prop := ∀ i, ∃ r : ℝ, v i = (r : EReal)

/-- A word that names a pixel. -/
def Names (w : BitVec 32) : Prop := ∃ k : ℕ, k < 262144 ∧ w = BitVec.ofNat 32 k

theorem chosen_names (e : Vec Ideal S2x1x512x512 .f32) (j : S2x2048.Idx) : Names (chosen e j) := by
  simp only [chosen, Host.topK, Host.sort2, extractStridedSlice, dif_pos (show 1 < S2x262144.rank by decide)]
  exact ⟨_, Fin.isLt (n := 262144) _, rfl⟩

theorem picks_names (e : Vec Ideal S2x1x512x512 .f32) (j : S2x96x2048.Idx) : Names (picks e j) := chosen_names e _

section words
variable {w : BitVec 32} (h : Names w)
include h

theorem toInt_of_names : 0 ≤ w.toInt ∧ w.toInt < 262144 := by
  obtain ⟨k, hk, rfl⟩ := h
  have hn : (BitVec.ofNat 32 k).toNat = k := by rw [BitVec.toNat_ofNat]; exact Nat.mod_eq_of_lt (by omega)
  rw [BitVec.toInt_eq_toNat_of_lt (by omega), hn]
  omega

theorem not_negative : IntOp.cmpi .slt w 0#32 = 0#1 := by
  have := toInt_of_names h
  show BitVec.ofBool (decide (w.toInt < 0)) = 0#1
  rw [decide_eq_false (by omega)]
  rfl

theorem not_below : IntOp.cmpi .sge w 0#32 = 1#1 := by
  have := toInt_of_names h
  show BitVec.ofBool (decide (0 ≤ w.toInt)) = 1#1
  rw [decide_eq_true (by omega)]
  rfl

theorem not_above : IntOp.cmpi .sle w 262143#32 = 1#1 := by
  have := toInt_of_names h
  show BitVec.ofBool (decide (w.toInt ≤ 262143)) = 1#1
  rw [decide_eq_true (by omega)]
  rfl

end words

theorem wrapped_names (i : Vec Ideal S2x96x2048 .i32) (h : ∀ j, Names (i j)) : wrapped i = i := by
  funext j
  show Scalar.select (IntOp.cmpi .slt (i j) 0#32) _ (i j) = i j
  rw [not_negative (h j)]
  rfl

theorem inside_names (i : Vec Ideal S2x96x2048x1 .i32) (h : ∀ j, Names (i j)) (j : S2x96x2048.Idx) : inside i j = 1#1 := by
  refine Host.reduce_andi_one _ _ _ _ j rfl fun k => ?_
  show IntOp.andi (IntOp.cmpi .sge (i k) 0#32) (IntOp.cmpi .sle (i k) 262143#32) = 1#1
  rw [not_below (h k), not_above (h k)]
  rfl

theorem taken_real (f : Vec Ideal S2x96x262144 .f32) (i : Vec Ideal S2x96x2048 .i32) (hf : Finite f) (hi : ∀ j, Names (i j)) :
    Finite (taken f i) := fun j => by
  have hin : inside (listed i) j = 1#1 := inside_names _ (fun k => by
    rw [listed, wrapped_names _ hi]; exact hi _) j
  rw [taken, select, hin, Scalar.select, if_pos (by rfl), Host.gather]
  exact hf _

theorem points_real (x : Vec Ideal S2x96x512x512 .f32) (e : Vec Ideal S2x1x512x512 .f32) (hx : Finite x) :
    Finite (points x e) := fun j => by
  rw [points, transpose]
  exact taken_real _ _ (fun k => hx _) (picks_names e) _

end Cert.Proof

end
-- ==== Proof.Agree.lean ====
/-
  On finite features and weights the kernel's block and the reference's layer are the same array, transposed.
-/
module

public import proofs.«01_k».proof.Proof.Layer
public import proofs.«01_k».proof.Proof.Points

@[expose] public section

set_option maxRecDepth 16384

noncomputable section

namespace Cert.Proof

open Idealize.ShloMosaic Cert.KernelIdeal Cert.KernelIdeal.Gen

variable (G : Vec Ideal S2x2048x96 .f32) (W : Vec Ideal S2048x2048 .f32) (ga ba : Vec Ideal S2048 .f32)
  (Wg : Vec Ideal S96x96 .f32) (gw bw : Vec Ideal S96 .f32)

theorem eps_pos : (0 : ℝ) < 10995116 * 2⁻¹ ^ 40 := by positivity

section finite
variable (hG : Finite G) (hW : Finite W)
include hG hW

theorem mixed_real (p : Fin 2048) : ∃ z : Fin 2 → Fin 96 → ℝ, mixed G W p = fun b c => (z b c : EReal) := by
  choose g hg using hG
  choose w hw using hW
  refine ⟨fun b c => ∑ q, w (ix2 p q) * g (ix3 b q c), ?_⟩
  funext b c
  simp only [mixed, hg, hw, ← EReal.coe_mul, coe_sum]

variable (hga : Finite ga)
include hga

theorem knode_eq (b : Fin 2) (p : Fin 2048) (c : Fin 96) :
    knode G W ga ba b p c
      = rbn (mixed G W p) n192 eps (ga (ix1 p)) (ba (ix1 p)) (mixed G W p b c) + G (ix3 b p c) := by
  obtain ⟨z, hz⟩ := mixed_real G W hG hW p
  obtain ⟨γ, hγ⟩ := hga (ix1 p)
  rw [knode, hz, hγ, Ref.n192_eq, Ref.eps_eq, kbn_eq_rbn z (by norm_num) eps_pos γ _ _ (by norm_num)]

theorem nodes_eq (b : Fin 2) (p : Fin 2048) (c : Fin 96) :
    Ref.nodes G W ga ba (ix3 b p c) = knode G W ga ba b p c :=
  (Ref.nodes_at G W ga ba b p c).trans (knode_eq G W ga ba hG hW hga b p c).symm

variable (hba : Finite ba)
include hba

theorem knode_real : ∃ h : Fin 2 → Fin 2048 → Fin 96 → ℝ, knode G W ga ba = fun b p c => (h b p c : EReal) := by
  have hn : ∀ b p c, ∃ r : ℝ, knode G W ga ba b p c = (r : EReal) := fun b p c => by
    obtain ⟨z, hz⟩ := mixed_real G W hG hW p
    obtain ⟨γ, hγ⟩ := hga (ix1 p)
    obtain ⟨β, hβ⟩ := hba (ix1 p)
    obtain ⟨g, hg⟩ := hG (ix3 b p c)
    rw [knode_eq G W ga ba hG hW hga, hz, hγ, hβ, hg, Ref.n192_eq, Ref.eps_eq, rbn_real z (by norm_num) eps_pos, ← EReal.coe_add]
    exact ⟨_, rfl⟩
  choose h hh using hn
  exact ⟨h, by funext b p c; exact hh b p c⟩

variable (hWg : Finite Wg) (hgw : Finite gw)
include hWg hgw

theorem update_eq_kout (b : Fin 2) (d : Fin 96) (p : Fin 2048) :
    Ref.update G W ga ba Wg gw bw (ix3 b d p) = kout G W ga ba Wg gw bw b p d := by
  obtain ⟨h, hh⟩ := knode_real G W ga ba hG hW hga hba
  choose v hv using hWg
  obtain ⟨γ, hγ⟩ := hgw (ix1 d)
  have hl : linear Wg (knode G W ga ba) d = fun b p => ((∑ c, h b p c * v (ix2 d c) : ℝ) : EReal) := by
    funext b p
    simp only [linear, hh, hv, ← EReal.coe_mul, coe_sum]
  rw [Ref.update_at, show (fun b p c => Ref.nodes G W ga ba (ix3 b p c)) = knode G W ga ba from by
    funext b p c; exact nodes_eq G W ga ba hG hW hga b p c, kout, hl, hγ, Ref.n4096_eq, Ref.eps_eq]
  exact (kbn_eq_rbn _ (by norm_num) eps_pos γ _ _ (by norm_num)).symm

theorem update_eq : Ref.update G W ga ba Wg gw bw
    = transpose S2x96x2048 [0, 2, 1] (kblock G W ga ba Wg gw bw) transposes_S2x2048x96_S2x96x2048_0_2_1 := by
  funext j
  obtain ⟨b, d, p, rfl⟩ : ∃ b d p, j = ix3 b d p := ⟨j 0, j 1, j 2, eq_ix3 j⟩
  rw [update_eq_kout G W ga ba Wg gw bw hG hW hga hba hWg hgw]
  rfl

end finite

end Cert.Proof

end
-- ==== Proof.Inputs.lean ====
/-
  What the precondition says: six of the arguments hold real numbers.
-/
module

public import proofs.«01_k».proof.Proof.Gen.Pre_finite_inputs
public import proofs.«01_k».proof.Proof.Points

@[expose] public section

set_option maxRecDepth 16384

noncomputable section

namespace Cert.Proof

open Idealize.ShloMosaic Cert.Pre_finite_inputs Cert.Pre_finite_inputs.Gen

theorem top_word : Ideal.ofBits .f32 0x7F800000#32 = ⊤ := by
  simp [Ideal.ofBits, Ideal.ieee]

/-- A value whose magnitude is below infinity is a real number. -/
theorem real_of_abs_lt (v : EReal) (h : max v (-v) < ⊤) : ∃ r : ℝ, v = (r : EReal) := by
  induction v with
  | bot => simp at h
  | coe r => exact ⟨r, rfl⟩
  | top => simp at h

/-- One conjunct of the precondition. -/
theorem finite_of_all {s : Shape} {axes : List (Fin s.rank)} (v : FVec Ideal s .f32) (hb : S_.BroadcastsInDim s (![] : Fin 0 → Fin s.rank))
    (hr : s.ReducesTo axes S_) (j : S_.Idx)
    (h : Host.reduce IntOp.andi (cmpf .olt (Host.absf v) (broadcastInDim s ![] hb (constant S_ .f32 0x7F800000#32)))
      (constantI S_ 1 1#1) hr h_S_ j = 1#1) : Finite v := fun i => by
  haveI : Subsingleton S_.Idx := ⟨fun a b => funext fun k => k.elim0⟩
  have e : BitVec.ofBool (decide (max (v i) (-(v i)) < Ideal.ofBits .f32 0x7F800000#32)) = 1#1 :=
    Host.reduce_andi_all _ _ hr h_S_ j h i
  rw [top_word] at e
  refine real_of_abs_lt _ ?_
  by_contra hn
  rw [decide_eq_false hn] at e
  exact absurd e (by decide)

theorem finite_inputs (x : FVec Ideal S2x96x512x512 .f32) (e : FVec Ideal S2x1x512x512 .f32) (W : FVec Ideal S2048x2048 .f32)
    (ga ba : FVec Ideal S2048 .f32) (Wg : FVec Ideal S96x96 .f32) (gw bw : FVec Ideal S96 .f32)
    (h : fn x e W ga ba Wg gw bw = fun _ => 1#1) :
    Finite x ∧ Finite W ∧ Finite ga ∧ Finite ba ∧ Finite Wg ∧ Finite gw := by
  have h0 := congrFun h ix0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨finite_of_all _ _ _ _ h1, finite_of_all _ _ _ _ h2, finite_of_all _ _ _ _ h3, finite_of_all _ _ _ _ h4,
    finite_of_all _ _ _ _ h5, finite_of_all _ _ _ _ h6⟩

end Cert.Proof

end
-- ==== Proof.lean ====
/-
  The claim: the frames from the generated modules, the value claim from the two runs, which leave one array.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_finite_inputs
public import proofs.«01_k».proof.Proof.KernelRun
public import proofs.«01_k».proof.Proof.ReferenceRun
public import proofs.«01_k».proof.Proof.Agree
public import proofs.«01_k».proof.Proof.Inputs
public import Idealize.ShloMosaic.Lib.Quiescent
public import Idealize.ShloMosaic.Adequacy
public import Idealize.ShloMosaic.Init

@[expose] public section

noncomputable section

namespace Cert.Proof

open Idealize.ShloMosaic Idealize.SL.Sem

/-- The reference declares no semaphore, so its frame needs the run alone. -/
theorem reference_frame : Cert.quiescent_ReferenceIdeal := fun m ρ _ =>
  (θ_run _ _ _).mono (fun r h => ⟨fun c => (h c).2, sem_eq_zero_of_no_sems (by decide) r.2⟩) (Ref.reference_run m ρ)

theorem algebraic : Cert.algebraic_KernelIdeal_ReferenceIdeal_pre_finite_inputs := by
  intro m ρ m' ρ' hpre hargs
  refine ⟨fun c => place (argX m c) (argE m c) (transpose Cert.KernelIdeal.S2x96x2048 [0, 2, 1] (kres m c)
    Cert.KernelIdeal.Gen.transposes_S2x2048x96_S2x96x2048_0_2_1), ?_, ?_⟩
  · exact (θ_run _ _ _).mono (fun r h c => ⟨h.1 c, h.2 c⟩)
      (θ_run_and (kernel_run m ρ) (Cert.KernelIdeal.Gen.unchanged m ρ))
  · refine (θ_run _ _ _).mono (fun r h c => ⟨(h c).1.trans ?_, (h c).2⟩) (Ref.reference_run m' ρ')
    obtain ⟨hx, hW, hga, hba, hWg, hgw⟩ := finite_inputs _ _ _ _ _ _ _ _ (hpre c)
    obtain ⟨h0, h1, h2, h3, h4, h5, h6, h7⟩ := hargs c
    rw [Ref.result, h0, h1, h2, h3, h4, h5, h6, h7]
    exact congrArg (place (argX m c) (argE m c))
      (update_eq (points (argX m c) (argE m c)) (argW m c) (argGa m c) (argBa m c) (argWg m c) (argGw m c) (argBw m c)
        (points_real _ _ hx) hW hga hba hWg hgw)

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial, algebraic⟩

end Cert.Proof

end
